-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "tenth" .f32 0x3DCCCCCD#32 ((1 / 10 : ℝ) : EReal)
  ∧ IdealRules.named_const.Statement Cert.KernelIdeal.κ "eps_tenth" .f32 0xB3D6BF95#32 ((-8796093 / 87960930222080 : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4096x1024 : Shape := ⟨2, ![4096, 1024]⟩
abbrev S4096x1 : Shape := ⟨2, ![4096, 1]⟩
abbrev S4096 : Shape := ⟨1, ![4096]⟩
abbrev S512x128 : Shape := ⟨2, ![512, 128]⟩
abbrev S128 : Shape := ⟨1, ![128]⟩
abbrev S128x11776 : Shape := ⟨2, ![128, 11776]⟩
abbrev S11776 : Shape := ⟨1, ![11776]⟩
abbrev S4096x512 : Shape := ⟨2, ![4096, 512]⟩
abbrev S_ : Shape := ⟨0, ![]⟩
abbrev S1x1 : Shape := ⟨2, ![1, 1]⟩

class Facts : Prop where
  slices_S4096x1024_S4096x512_0_0 : S4096x1024.Slices ![0, 0] S4096x512
  bcast_S_S4096x512 : S_.BroadcastsInDim S4096x512 (![] : Fin 0 → Fin S4096x512.rank)
  reducesTo_S4096x512_S_d0_1 : S4096x512.ReducesTo [0, 1] S_
  h_S_ : 0 < S_.numel
  slices_S4096x512_S1x1_0_0 : S4096x512.Slices ![0, 0] S1x1
  shapeCasts_S1x1_S_ : S1x1.ShapeCasts S_
  bcast_S_S128x11776 : S_.BroadcastsInDim S128x11776 (![] : Fin 0 → Fin S128x11776.rank)
  reducesTo_S128x11776_S_d0_1 : S128x11776.ReducesTo [0, 1] S_
  bcast_S_S128 : S_.BroadcastsInDim S128 (![] : Fin 0 → Fin S128.rank)
  reducesTo_S128_S_d0 : S128.ReducesTo [0] S_
  bcast_S_S11776 : S_.BroadcastsInDim S11776 (![] : Fin 0 → Fin S11776.rank)
  reducesTo_S11776_S_d0 : S11776.ReducesTo [0] S_

variable [Facts]

def fn_part1 {F : FTy → Type} [FloatOps F] (main_arg6 : FVec F S11776 .f32) (main_v15 : IVec S_ 1) (main_v17 : IVec S128 1) : IVec S_ 1 :=
  let main_c_4 : IVec S_ 1 := constantI S_ 1 1#1
  let main_v18 : IVec S_ 1 := (fun x v => Host.reduce IntOp.andi x v reducesTo_S128_S_d0 h_S_) main_v17 main_c_4
  let main_v19 : IVec S_ 1 := andi main_v15 main_v18
  let main_cst_5 : FVec F S_ .f32 := constant S_ .f32 0x00000000#32
  let main_v20 : FVec F S11776 .f32 := broadcastInDim S11776 ![] bcast_S_S11776 main_cst_5
  let main_v21 : IVec S11776 1 := cmpf .oeq main_arg6 main_v20
  let main_c_6 : IVec S_ 1 := constantI S_ 1 1#1
  let main_v22 : IVec S_ 1 := (fun x v => Host.reduce IntOp.andi x v reducesTo_S11776_S_d0 h_S_) main_v21 main_c_6
  let main_v23 : IVec S_ 1 := andi main_v19 main_v22
  main_v23

def fn {F : FTy → Type} [FloatOps F] (main_arg0 : FVec F S4096x1024 .f32) (main_arg1 : FVec F S4096x1 .f32) (main_arg2 : IVec S4096 1) (main_arg3 : FVec F S512x128 .f32) (main_arg4 : FVec F S128 .f32) (main_arg5 : FVec F S128x11776 .f32) (main_arg6 : FVec F S11776 .f32) : IVec S_ 1 :=
  let main_v0 : FVec F S4096x512 .f32 := (extractStridedSlice S4096x512 ![0, 0] · slices_S4096x1024_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S1x1 .f32 := (extractStridedSlice S1x1 ![0, 0] · slices_S4096x512_S1x1_0_0) main_v0
  let main_v6 : FVec F S_ .f32 := shapeCast S_ main_v5 shapeCasts_S1x1_S_
  let main_v7 : FVec F S4096x512 .f32 := broadcastInDim S4096x512 ![] bcast_S_S4096x512 main_v6
  let main_v8 : IVec S4096x512 1 := cmpf .une main_v0 main_v7
  let main_c_0 : IVec S_ 1 := constantI S_ 1 0#1
  let main_v9 : IVec S_ 1 := (fun x v => Host.reduce IntOp.ori x v reducesTo_S4096x512_S_d0_1 h_S_) main_v8 main_c_0
  let main_v10 : IVec S_ 1 := andi main_v4 main_v9
  let main_v11 : FVec F S128x11776 .f32 := Host.absf main_arg5
  let main_cst_1 : FVec F S_ .f32 := constant S_ .f32 0x7F800000#32
  let main_v12 : FVec F S128x11776 .f32 := broadcastInDim S128x11776 ![] bcast_S_S128x11776 main_cst_1
  let main_v13 : IVec S128x11776 1 := cmpf .olt main_v11 main_v12
  let main_c_2 : IVec S_ 1 := constantI S_ 1 1#1
  let main_v14 : IVec S_ 1 := (fun x v => Host.reduce IntOp.andi x v reducesTo_S128x11776_S_d0_1 h_S_) main_v13 main_c_2
  let main_v15 : IVec S_ 1 := andi main_v10 main_v14
  let main_cst_3 : FVec F S_ .f32 := constant S_ .f32 0x00000000#32
  let main_v16 : FVec F S128 .f32 := broadcastInDim S128 ![] bcast_S_S128 main_cst_3
  let main_v17 : IVec S128 1 := cmpf .oeq main_arg4 main_v16
  fn_part1 (F := F) main_arg6 main_v15 main_v17
-- ==== Kernel.lean ====
abbrev S4096x1024 : Shape := ⟨2, ![4096, 1024]⟩
abbrev S4096x1 : Shape := ⟨2, ![4096, 1]⟩
abbrev S4096 : Shape := ⟨1, ![4096]⟩
abbrev S512x128 : Shape := ⟨2, ![512, 128]⟩
abbrev S128 : Shape := ⟨1, ![128]⟩
abbrev S128x11776 : Shape := ⟨2, ![128, 11776]⟩
abbrev S11776 : Shape := ⟨1, ![11776]⟩
abbrev S4096x512 : Shape := ⟨2, ![4096, 512]⟩
abbrev S256x1024 : Shape := ⟨2, ![256, 1024]⟩
abbrev S256x1 : Shape := ⟨2, ![256, 1]⟩
abbrev S11776x128 : Shape := ⟨2, ![11776, 128]⟩
abbrev S2 : Shape := ⟨1, ![2]⟩
abbrev S1x4096x512 : Shape := ⟨3, ![1, 4096, 512]⟩
abbrev S1 : Shape := ⟨1, ![1]⟩
abbrev S1x1x1 : Shape := ⟨3, ![1, 1, 1]⟩
abbrev S256x512 : Shape := ⟨2, ![256, 512]⟩
abbrev S256x128 : Shape := ⟨2, ![256, 128]⟩
abbrev S128x256 : Shape := ⟨2, ![128, 256]⟩
abbrev S512x256 : Shape := ⟨2, ![512, 256]⟩
abbrev S256 : Shape := ⟨1, ![256]⟩
abbrev S1x256 : Shape := ⟨2, ![1, 256]⟩

abbrev nBuf : Space → Nat
  | .hbm => 9
  | .vmem => 12
  | .smem => 1
  | _ => 0

abbrev bufTy : (tb : Table) → Fin (tcTables nBuf tb) → BufTy
  | .hbm, ⟨0, _⟩ => ⟨S4096x1024, .f32⟩
  | .hbm, ⟨1, _⟩ => ⟨S4096x1, .f32⟩
  | .hbm, ⟨2, _⟩ => ⟨S4096, .i1⟩
  | .hbm, ⟨3, _⟩ => ⟨S512x128, .f32⟩
  | .hbm, ⟨4, _⟩ => ⟨S128, .f32⟩
  | .hbm, ⟨5, _⟩ => ⟨S128x11776, .f32⟩
  | .hbm, ⟨6, _⟩ => ⟨S11776, .f32⟩
  | .hbm, ⟨7, _⟩ => ⟨S4096x1024, .f32⟩
  | .hbm, ⟨8, _⟩ => ⟨S4096x1, .f32⟩
  | .local _ .vmem, ⟨0, _⟩ => ⟨S4096x512, .f32⟩
  | .local _ .vmem, ⟨1, _⟩ => ⟨S256x1024, .f32⟩
  | .local _ .vmem, ⟨2, _⟩ => ⟨S256x1024, .f32⟩
  | .local _ .vmem, ⟨3, _⟩ => ⟨S256x1, .f32⟩
  | .local _ .vmem, ⟨4, _⟩ => ⟨S256x1, .f32⟩
  | .local _ .vmem, ⟨5, _⟩ => ⟨S512x128, .f32⟩
  | .local _ .vmem, ⟨6, _⟩ => ⟨S128x11776, .f32⟩
  | .local _ .vmem, ⟨7, _⟩ => ⟨S256x1024, .f32⟩
  | .local _ .vmem, ⟨8, _⟩ => ⟨S256x1024, .f32⟩
  | .local _ .vmem, ⟨9, _⟩ => ⟨S256x1, .f32⟩
  | .local _ .vmem, ⟨10, _⟩ => ⟨S256x1, .f32⟩
  | .local _ .vmem, ⟨11, _⟩ => ⟨S11776x128, .f32⟩
  | .local _ .smem, ⟨0, _⟩ => ⟨S2, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x11776 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "eps_tenth" => some ((-8796093 / 87960930222080 : ℝ) : EReal)
  | "ln2" => some ((Real.log 2 : ℝ) : EReal)
  | "log2e" => some (((Real.log 2)⁻¹ : ℝ) : EReal)
  | "tenth" => some ((1 / 10 : ℝ) : EReal)
  | _ => none
-- ==== ReferenceIdeal.lean ====
abbrev S4096x1024 : Shape := ⟨2, ![4096, 1024]⟩
abbrev S4096x1 : Shape := ⟨2, ![4096, 1]⟩
abbrev S4096 : Shape := ⟨1, ![4096]⟩
abbrev S512x128 : Shape := ⟨2, ![512, 128]⟩
abbrev S128 : Shape := ⟨1, ![128]⟩
abbrev S128x11776 : Shape := ⟨2, ![128, 11776]⟩
abbrev S11776 : Shape := ⟨1, ![11776]⟩
abbrev S4096x512 : Shape := ⟨2, ![4096, 512]⟩
abbrev S_ : Shape := ⟨0, ![]⟩
abbrev S1x1 : Shape := ⟨2, ![1, 1]⟩
abbrev S4096x128 : Shape := ⟨2, ![4096, 128]⟩
abbrev S1x128 : Shape := ⟨2, ![1, 128]⟩
abbrev S4096x11776 : Shape := ⟨2, ![4096, 11776]⟩
abbrev S1x11776 : Shape := ⟨2, ![1, 11776]⟩
abbrev S4096x512x23 : Shape := ⟨3, ![4096, 512, 23]⟩
abbrev S4096x512x8 : Shape := ⟨3, ![4096, 512, 8]⟩
abbrev S4096x512x7 : Shape := ⟨3, ![4096, 512, 7]⟩
abbrev S4096x512x1 : Shape := ⟨3, ![4096, 512, 1]⟩
abbrev S4096x512x9 : Shape := ⟨3, ![4096, 512, 9]⟩
abbrev S4096x512x1x1 : Shape := ⟨4, ![4096, 512, 1, 1]⟩
abbrev S1 : Shape := ⟨1, ![1]⟩
abbrev S1x1x1x1 : Shape := ⟨4, ![1, 1, 1, 1]⟩

abbrev nBuf : Space → Nat
  | .hbm => 360
  | .vmem => 0
  | .smem => 0
  | _ => 0

abbrev hbmTy0_0 (i : Nat) : BufTy := match i % 128 with
  | 0 => ⟨S4096x1024, .f32⟩
  | 1 => ⟨S4096x1, .f32⟩
  | 2 => ⟨S4096, .i1⟩
  | 3 => ⟨S512x128, .f32⟩
  | 4 => ⟨S128, .f32⟩
  | 5 => ⟨S128x11776, .f32⟩
  | 6 => ⟨S11776, .f32⟩
  | 7 => ⟨S4096x512, .f32⟩
  | 8 => ⟨S4096x512, .f32⟩
  | 9 => ⟨S_, .f32⟩
  | 10 => ⟨S_, .f32⟩
  | 11 => ⟨S_, .f32⟩
  | 12 => ⟨S_, .f32⟩
  | 13 => ⟨S4096x512, .f32⟩
  | 14 => ⟨S4096x512, .f32⟩
  | 15 => ⟨S_, .i32⟩
  | 16 => ⟨S_, .f32⟩
  | 17 => ⟨S_, .f32⟩
  | 18 => ⟨S1x1, .f32⟩
  | 19 => ⟨S_, .f32⟩
  | 20 => ⟨S1x1, .f32⟩
  | 21 => ⟨S1x1, .f32⟩
  | 22 => ⟨S4096x512, .f32⟩
  | 23 => ⟨S4096x512, .f32⟩
  | 24 => ⟨S4096x512, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S4096x512, .f32⟩
  | 38 => ⟨S4096x512, .f32⟩
  | 39 => ⟨S4096x128, .f32⟩
  | 40 => ⟨S1x128, .f32⟩
  | 41 => ⟨S4096x128, .f32⟩
  | 42 => ⟨S4096x128, .f32⟩
  | 43 => ⟨S4096x128, .f32⟩
  | 44 => ⟨S4096x11776, .f32⟩
  | 45 => ⟨S1x11776, .f32⟩
  | 46 => ⟨S4096x11776, .f32⟩
  | 47 => ⟨S4096x11776, .f32⟩
  | 48 => ⟨S4096x512x23, .f32⟩
  | 49 => ⟨S4096x512x8, .f32⟩
  | 50 => ⟨S4096x512x8, .f32⟩
  | 51 => ⟨S4096x512x7, .f32⟩
  | 52 => ⟨S_, .f32⟩
  | 53 => ⟨S4096x512, .f32⟩
  | 54 => ⟨S_, .f32⟩
  | 55 => ⟨S4096x512, .f32⟩
  | 56 => ⟨S4096x512, .f32⟩
  | 57 => ⟨S4096x512x1, .f32⟩
  | 58 => ⟨S4096x512x8, .f32⟩
  | 59 => ⟨S4096x512x8, .f32⟩
  | 60 => ⟨S4096x512x8, .f32⟩
  | 61 => ⟨S_, .f32⟩
  | 62 => ⟨S4096x512, .f32⟩
  | 63 => ⟨S4096x512x1, .f32⟩
  | 64 => ⟨S4096x512x8, .f32⟩
  | 65 => ⟨S4096x512x8, .f32⟩
  | 66 => ⟨S_, .f32⟩
  | 67 => ⟨S4096x512x8, .f32⟩
  | 68 => ⟨S4096x512x8, .f32⟩
  | 69 => ⟨S_, .f32⟩
  | 70 => ⟨S4096x512x8, .f32⟩
  | 71 => ⟨S4096x512x8, .f32⟩
  | 72 => ⟨S_, .f32⟩
  | 73 => ⟨S4096x512, .f32⟩
  | 74 => ⟨S_, .f32⟩
  | 75 => ⟨S4096x512, .f32⟩
  | 76 => ⟨S4096x512, .f32⟩
  | 77 => ⟨S4096x512x1, .f32⟩
  | 78 => ⟨S4096x512x8, .f32⟩
  | 79 => ⟨S4096x512x8, .f32⟩
  | 80 => ⟨S4096x512x8, .f32⟩
  | 81 => ⟨S_, .f32⟩
  | 82 => ⟨S4096x512, .f32⟩
  | 83 => ⟨S4096x512x1, .f32⟩
  | 84 => ⟨S4096x512x8, .f32⟩
  | 85 => ⟨S4096x512x8, .f32⟩
  | 86 => ⟨S_, .f32⟩
  | 87 => ⟨S4096x512x8, .f32⟩
  | 88 => ⟨S4096x512x8, .f32⟩
  | 89 => ⟨S_, .f32⟩
  | 90 => ⟨S4096x512x8, .f32⟩
  | 91 => ⟨S4096x512x8, .f32⟩
  | 92 => ⟨S_, .f32⟩
  | 93 => ⟨S4096x512x7, .f32⟩
  | 94 => ⟨S4096x512x7, .f32⟩
  | 95 => ⟨S4096x512x7, .f32⟩
  | 96 => ⟨S4096x512x7, .f32⟩
  | 97 => ⟨S4096x512x7, .i1⟩
  | 98 => ⟨S4096x512x7, .f32⟩
  | 99 => ⟨S4096x512x7, .f32⟩
  | 100 => ⟨S4096x512x7, .f32⟩
  | 101 => ⟨S4096x512x7, .f32⟩
  | 102 => ⟨S4096x512x7, .f32⟩
  | 103 => ⟨S4096x512x7, .f32⟩
  | 104 => ⟨S4096x512x7, .f32⟩
  | 105 => ⟨S4096x512x7, .f32⟩
  | 106 => ⟨S_, .f32⟩
  | 107 => ⟨S_, .f32⟩
  | 108 => ⟨S4096x512x9, .f32⟩
  | 109 => ⟨S_, .f32⟩
  | 110 => ⟨S4096x512x1, .f32⟩
  | 111 => ⟨S_, .f32⟩
  | 112 => ⟨S_, .f32⟩
  | 113 => ⟨S4096x512x8, .f32⟩
  | 114 => ⟨S4096x512x9, .f32⟩
  | 115 => ⟨S_, .f32⟩
  | 116 => ⟨S4096x512x9, .f32⟩
  | 117 => ⟨S4096x512x9, .f32⟩
  | 118 => ⟨S_, .f32⟩
  | 119 => ⟨S4096x512x1, .f32⟩
  | 120 => ⟨S_, .f32⟩
  | 121 => ⟨S_, .f32⟩
  | 122 => ⟨S4096x512x8, .f32⟩
  | 123 => ⟨S4096x512x9, .f32⟩
  | 124 => ⟨S_, .f32⟩
  | 125 => ⟨S4096x512x9, .f32⟩
  | 126 => ⟨S4096x512x9, .f32⟩
  | 127 => ⟨S4096x512, .f32⟩
  | _ => ⟨S4096x1024, .f32⟩

abbrev hbmTy0_1 (i : Nat) : BufTy := match i % 128 with
  | 0 => ⟨S_, .f32⟩
  | 1 => ⟨S4096x512, .f32⟩
  | 2 => ⟨S4096x512, .i1⟩
  | 3 => ⟨S_, .f32⟩
  | 4 => ⟨S_, .f32⟩
  | 5 => ⟨S_, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S4096x512x1, .f32⟩
  | 12 => ⟨S4096x512x9, .f32⟩
  | 13 => ⟨S4096x512x9, .i1⟩
  | 14 => ⟨S4096x512x9, .i32⟩
  | 15 => ⟨S_, .i32⟩
  | 16 => ⟨S4096x512, .i32⟩
  | 17 => ⟨S_, .i32⟩
  | 18 => ⟨S4096x512, .i32⟩
  | 19 => ⟨S4096x512, .i32⟩
  | 20 => ⟨S_, .i32⟩
  | 21 => ⟨S_, .i32⟩
  | 22 => ⟨S_, .i32⟩
  | 23 => ⟨S4096x512, .i32⟩
  | 24 => ⟨S4096x512, .i32⟩
  | 25 => ⟨S_, .i32⟩
  | 26 => ⟨S4096x512, .i32⟩
  | 27 => ⟨S4096x512, .i32⟩
  | 28 => ⟨S4096x512x1, .i32⟩
  | 29 => ⟨S_, .i32⟩
  | 30 => ⟨S4096x512x1, .i32⟩
  | 31 => ⟨S4096x512x1, .i1⟩
  | 32 => ⟨S_, .i32⟩
  | 33 => ⟨S4096x512x1, .i32⟩
  | 34 => ⟨S4096x512x1, .i32⟩
  | 35 => ⟨S4096x512x1, .i32⟩
  | 36 => ⟨S4096x512x1x1, .i32⟩
  | 37 => ⟨S1, .i32⟩
  | 38 => ⟨S_, .i32⟩
  | 39 => ⟨S4096x512x1x1, .i32⟩
  | 40 => ⟨S4096x512x1x1, .i1⟩
  | 41 => ⟨S1x1x1x1, .i32⟩
  | 42 => ⟨S4096x512x1x1, .i32⟩
  | 43 => ⟨S4096x512x1x1, .i1⟩
  | 44 => ⟨S4096x512x1x1, .i1⟩
  | 45 => ⟨S_, .i1⟩
  | 46 => ⟨S4096x512x1, .i1⟩
  | 47 => ⟨S4096x512x1, .f32⟩
  | 48 => ⟨S_, .f32⟩
  | 49 => ⟨S4096x512x1, .f32⟩
  | 50 => ⟨S4096x512x1, .f32⟩
  | 51 => ⟨S4096x512, .f32⟩
  | 52 => ⟨S4096x512x1, .i32⟩
  | 53 => ⟨S_, .i32⟩
  | 54 => ⟨S4096x512x1, .i32⟩
  | 55 => ⟨S4096x512x1, .i1⟩
  | 56 => ⟨S_, .i32⟩
  | 57 => ⟨S4096x512x1, .i32⟩
  | 58 => ⟨S4096x512x1, .i32⟩
  | 59 => ⟨S4096x512x1, .i32⟩
  | 60 => ⟨S4096x512x1x1, .i32⟩
  | 61 => ⟨S1, .i32⟩
  | 62 => ⟨S_, .i32⟩
  | 63 => ⟨S4096x512x1x1, .i32⟩
  | 64 => ⟨S4096x512x1x1, .i1⟩
  | 65 => ⟨S1x1x1x1, .i32⟩
  | 66 => ⟨S4096x512x1x1, .i32⟩
  | 67 => ⟨S4096x512x1x1, .i1⟩
  | 68 => ⟨S4096x512x1x1, .i1⟩
  | 69 => ⟨S_, .i1⟩
  | 70 => ⟨S4096x512x1, .i1⟩
  | 71 => ⟨S4096x512x1, .f32⟩
  | 72 => ⟨S_, .f32⟩
  | 73 => ⟨S4096x512x1, .f32⟩
  | 74 => ⟨S4096x512x1, .f32⟩
  | 75 => ⟨S4096x512, .f32⟩
  | 76 => ⟨S4096x512x1, .i32⟩
  | 77 => ⟨S_, .i32⟩
  | 78 => ⟨S4096x512x1, .i32⟩
  | 79 => ⟨S4096x512x1, .i1⟩
  | 80 => ⟨S_, .i32⟩
  | 81 => ⟨S4096x512x1, .i32⟩
  | 82 => ⟨S4096x512x1, .i32⟩
  | 83 => ⟨S4096x512x1, .i32⟩
  | 84 => ⟨S4096x512x1x1, .i32⟩
  | 85 => ⟨S1, .i32⟩
  | 86 => ⟨S_, .i32⟩
  | 87 => ⟨S4096x512x1x1, .i32⟩
  | 88 => ⟨S4096x512x1x1, .i1⟩
  | 89 => ⟨S1x1x1x1, .i32⟩
  | 90 => ⟨S4096x512x1x1, .i32⟩
  | 91 => ⟨S4096x512x1x1, .i1⟩
  | 92 => ⟨S4096x512x1x1, .i1⟩
  | 93 => ⟨S_, .i1⟩
  | 94 => ⟨S4096x512x1, .i1⟩
  | 95 => ⟨S4096x512x1, .f32⟩
  | 96 => ⟨S_, .f32⟩
  | 97 => ⟨S4096x512x1, .f32⟩
  | 98 => ⟨S4096x512x1, .f32⟩
  | 99 => ⟨S4096x512, .f32⟩
  | 100 => ⟨S_, .i32⟩
  | 101 => ⟨S4096x512, .i32⟩
  | 102 => ⟨S4096x512, .i32⟩
  | 103 => ⟨S4096x512x1, .i32⟩
  | 104 => ⟨S_, .i32⟩
  | 105 => ⟨S4096x512x1, .i32⟩
  | 106 => ⟨S4096x512x1, .i1⟩
  | 107 => ⟨S_, .i32⟩
  | 108 => ⟨S4096x512x1, .i32⟩
  | 109 => ⟨S4096x512x1, .i32⟩
  | 110 => ⟨S4096x512x1, .i32⟩
  | 111 => ⟨S4096x512x1x1, .i32⟩
  | 112 => ⟨S1, .i32⟩
  | 113 => ⟨S_, .i32⟩
  | 114 => ⟨S4096x512x1x1, .i32⟩
  | 115 => ⟨S4096x512x1x1, .i1⟩
  | 116 => ⟨S1x1x1x1, .i32⟩
  | 117 => ⟨S4096x512x1x1, .i32⟩
  | 118 => ⟨S4096x512x1x1, .i1⟩
  | 119 => ⟨S4096x512x1x1, .i1⟩
  | 120 => ⟨S_, .i1⟩
  | 121 => ⟨S4096x512x1, .i1⟩
  | 122 => ⟨S4096x512x1, .f32⟩
  | 123 => ⟨S_, .f32⟩
  | 124 => ⟨S4096x512x1, .f32⟩
  | 125 => ⟨S4096x512x1, .f32⟩
  | 126 => ⟨S4096x512, .f32⟩
  | 127 => ⟨S4096x512x1, .i32⟩
  | _ => ⟨S4096x1024, .f32⟩

abbrev hbmTy0_2 (i : Nat) : BufTy := match i % 128 with
  | 0 => ⟨S_, .i32⟩
  | 1 => ⟨S4096x512x1, .i32⟩
  | 2 => ⟨S4096x512x1, .i1⟩
  | 3 => ⟨S_, .i32⟩
  | 4 => ⟨S4096x512x1, .i32⟩
  | 5 => ⟨S4096x512x1, .i32⟩
  | 6 => ⟨S4096x512x1, .i32⟩
  | 7 => ⟨S4096x512x1x1, .i32⟩
  | 8 => ⟨S1, .i32⟩
  | 9 => ⟨S_, .i32⟩
  | 10 => ⟨S4096x512x1x1, .i32⟩
  | 11 => ⟨S4096x512x1x1, .i1⟩
  | 12 => ⟨S1x1x1x1, .i32⟩
  | 13 => ⟨S4096x512x1x1, .i32⟩
  | 14 => ⟨S4096x512x1x1, .i1⟩
  | 15 => ⟨S4096x512x1x1, .i1⟩
  | 16 => ⟨S_, .i1⟩
  | 17 => ⟨S4096x512x1, .i1⟩
  | 18 => ⟨S4096x512x1, .f32⟩
  | 19 => ⟨S_, .f32⟩
  | 20 => ⟨S4096x512x1, .f32⟩
  | 21 => ⟨S4096x512x1, .f32⟩
  | 22 => ⟨S4096x512, .f32⟩
  | 23 => ⟨S4096x512x1, .i32⟩
  | 24 => ⟨S_, .i32⟩
  | 25 => ⟨S4096x512x1, .i32⟩
  | 26 => ⟨S4096x512x1, .i1⟩
  | 27 => ⟨S_, .i32⟩
  | 28 => ⟨S4096x512x1, .i32⟩
  | 29 => ⟨S4096x512x1, .i32⟩
  | 30 => ⟨S4096x512x1, .i32⟩
  | 31 => ⟨S4096x512x1x1, .i32⟩
  | 32 => ⟨S1, .i32⟩
  | 33 => ⟨S_, .i32⟩
  | 34 => ⟨S4096x512x1x1, .i32⟩
  | 35 => ⟨S4096x512x1x1, .i1⟩
  | 36 => ⟨S1x1x1x1, .i32⟩
  | 37 => ⟨S4096x512x1x1, .i32⟩
  | 38 => ⟨S4096x512x1x1, .i1⟩
  | 39 => ⟨S4096x512x1x1, .i1⟩
  | 40 => ⟨S_, .i1⟩
  | 41 => ⟨S4096x512x1, .i1⟩
  | 42 => ⟨S4096x512x1, .f32⟩
  | 43 => ⟨S_, .f32⟩
  | 44 => ⟨S4096x512x1, .f32⟩
  | 45 => ⟨S4096x512x1, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S_, .f32⟩
  | 96 => ⟨S4096x512, .f32⟩
  | 97 => ⟨S4096x512, .f32⟩
  | 98 => ⟨S4096x1024, .f32⟩
  | 99 => ⟨S4096x512, .f32⟩
  | 100 => ⟨S_, .f32⟩
  | 101 => ⟨S4096, .f32⟩
  | 102 => ⟨S4096x1, .f32⟩
  | 103 => ⟨S4096x1, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_cst_3 : Ref sig .tc := ⟨.hbm, 31, rfl⟩
abbrev main_call0_call0_v11 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_8 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_9 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_v52 : Ref sig .tc := ⟨.hbm, 105, rfl⟩
abbrev main_cst_11 : Ref sig .tc := ⟨.hbm, 106, rfl⟩
abbrev main_call2_v0 : Ref sig .tc := ⟨.hbm, 107, rfl⟩
abbrev main_v53 : Ref sig .tc := ⟨.hbm, 108, rfl⟩
abbrev main_cst_12 : Ref sig .tc := ⟨.hbm, 109, rfl⟩
abbrev main_v54 : Ref sig .tc := ⟨.hbm, 110, rfl⟩
abbrev main_call3_call0_cst : Ref sig .tc := ⟨.hbm, 111, rfl⟩
abbrev main_call3_call0_v0 : Ref sig .tc := ⟨.hbm, 112, rfl⟩
abbrev main_v55 : Ref sig .tc := ⟨.hbm, 113, rfl⟩
abbrev main_v56 : Ref sig .tc := ⟨.hbm, 114, rfl⟩
abbrev main_cst_13 : Ref sig .tc := ⟨.hbm, 115, rfl⟩
abbrev main_v57 : Ref sig .tc := ⟨.hbm, 116, rfl⟩
abbrev main_v58 : Ref sig .tc := ⟨.hbm, 117, rfl⟩
abbrev main_cst_14 : Ref sig .tc := ⟨.hbm, 118, rfl⟩
abbrev main_v59 : Ref sig .tc := ⟨.hbm, 119, rfl⟩
abbrev main_call4_call0_cst : Ref sig .tc := ⟨.hbm, 120, rfl⟩
abbrev main_call4_call0_v0 : Ref sig .tc := ⟨.hbm, 121, rfl⟩
abbrev main_v60 : Ref sig .tc := ⟨.hbm, 122, rfl⟩
abbrev main_v61 : Ref sig .tc := ⟨.hbm, 123, rfl⟩
abbrev main_cst_15 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_16 : Ref sig .tc := ⟨.hbm, 128, rfl⟩
abbrev main_v65 : Ref sig .tc := ⟨.hbm, 129, rfl⟩
abbrev main_v66 : Ref sig .tc := ⟨.hbm, 130, rfl⟩
abbrev main_cst_17 : Ref sig .tc := ⟨.hbm, 131, rfl⟩
abbrev main_cst_18 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_c_19 : Ref sig .tc := ⟨.hbm, 143, rfl⟩
abbrev main_v72 : Ref sig .tc := ⟨.hbm, 144, rfl⟩
abbrev main_c_20 : Ref sig .tc := ⟨.hbm, 145, rfl⟩
abbrev main_v73 : Ref sig .tc := ⟨.hbm, 146, rfl⟩
abbrev main_v74 : Ref sig .tc := ⟨.hbm, 147, rfl⟩
abbrev main_c_21 : Ref sig .tc := ⟨.hbm, 148, rfl⟩
abbrev main_c_22 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_v75 : Ref sig .tc := ⟨.hbm, 155, rfl⟩
abbrev main_v76 : Ref sig .tc := ⟨.hbm, 156, rfl⟩
abbrev main_call7_c : Ref sig .tc := ⟨.hbm, 157, rfl⟩
abbrev main_call7_v0 : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_v5 : Ref sig .tc := ⟨.hbm, 164, rfl⟩
abbrev main_call7_c_1 : Ref sig .tc := ⟨.hbm, 165, rfl⟩
abbrev main_call7_c_2 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_v9 : Ref sig .tc := ⟨.hbm, 170, rfl⟩
abbrev main_call7_v10 : Ref sig .tc := ⟨.hbm, 171, rfl⟩
abbrev main_call7_v11 : Ref sig .tc := ⟨.hbm, 172, rfl⟩
abbrev main_call7_c_3 : Ref sig .tc := ⟨.hbm, 173, rfl⟩
abbrev main_call7_v12 : Ref sig .tc := ⟨.hbm, 174, rfl⟩
abbrev main_call7_v13 : Ref sig .tc := ⟨.hbm, 175, rfl⟩
abbrev main_call7_cst : Ref sig .tc := ⟨.hbm, 176, rfl⟩
abbrev main_call7_v14 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_call8_c : Ref sig .tc := ⟨.hbm, 181, rfl⟩
abbrev main_call8_v0 : Ref sig .tc := ⟨.hbm, 182, rfl⟩
abbrev main_call8_v1 : Ref sig .tc := ⟨.hbm, 183, rfl⟩
abbrev main_call8_c_0 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_v5 : Ref sig .tc := ⟨.hbm, 188, rfl⟩
abbrev main_call8_c_1 : Ref sig .tc := ⟨.hbm, 189, rfl⟩
abbrev main_call8_c_2 : Ref sig .tc := ⟨.hbm, 190, rfl⟩
abbrev main_call8_v6 : Ref sig .tc := ⟨.hbm, 191, rfl⟩
abbrev main_call8_v7 : Ref sig .tc := ⟨.hbm, 192, rfl⟩
abbrev main_call8_v8 : Ref sig .tc := ⟨.hbm, 193, rfl⟩
abbrev main_call8_v9 : Ref sig .tc := ⟨.hbm, 194, rfl⟩
abbrev main_call8_v10 : Ref sig .tc := ⟨.hbm, 195, rfl⟩
abbrev main_call8_v11 : Ref sig .tc := ⟨.hbm, 196, rfl⟩
abbrev main_call8_c_3 : Ref sig .tc := ⟨.hbm, 197, rfl⟩
abbrev main_call8_v12 : Ref sig .tc := ⟨.hbm, 198, rfl⟩
abbrev main_call8_v13 : Ref sig .tc := ⟨.hbm, 199, rfl⟩
abbrev main_call8_cst : Ref sig .tc := ⟨.hbm, 200, rfl⟩
abbrev main_call8_v14 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_call9_c : Ref sig .tc := ⟨.hbm, 205, rfl⟩
abbrev main_call9_v0 : Ref sig .tc := ⟨.hbm, 206, rfl⟩
abbrev main_call9_v1 : Ref sig .tc := ⟨.hbm, 207, rfl⟩
abbrev main_call9_c_0 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_call9_v5 : Ref sig .tc := ⟨.hbm, 212, rfl⟩
abbrev main_call9_c_1 : Ref sig .tc := ⟨.hbm, 213, rfl⟩
abbrev main_call9_c_2 : Ref sig .tc := ⟨.hbm, 214, rfl⟩
abbrev main_call9_v6 : Ref sig .tc := ⟨.hbm, 215, rfl⟩
abbrev main_call9_v7 : Ref sig .tc := ⟨.hbm, 216, rfl⟩
abbrev main_call9_v8 : Ref sig .tc := ⟨.hbm, 217, rfl⟩
abbrev main_call9_v9 : Ref sig .tc := ⟨.hbm, 218, rfl⟩
abbrev main_call9_v10 : Ref sig .tc := ⟨.hbm, 219, rfl⟩
abbrev main_call9_v11 : Ref sig .tc := ⟨.hbm, 220, rfl⟩
abbrev main_call9_c_3 : Ref sig .tc := ⟨.hbm, 221, rfl⟩
abbrev main_call9_v12 : Ref sig .tc := ⟨.hbm, 222, rfl⟩
abbrev main_call9_v13 : Ref sig .tc := ⟨.hbm, 223, rfl⟩
abbrev main_call9_cst : Ref sig .tc := ⟨.hbm, 224, rfl⟩
abbrev main_call9_v14 : Ref sig .tc := ⟨.hbm, 225, rfl⟩
abbrev main_v83 : Ref sig .tc := ⟨.hbm, 226, rfl⟩
abbrev main_v84 : Ref sig .tc := ⟨.hbm, 227, rfl⟩
abbrev main_c_23 : Ref sig .tc := ⟨.hbm, 228, rfl⟩
abbrev main_v85 : Ref sig .tc := ⟨.hbm, 229, rfl⟩
abbrev main_v86 : Ref sig .tc := ⟨.hbm, 230, rfl⟩
abbrev main_v87 : Ref sig .tc := ⟨.hbm, 231, rfl⟩
abbrev main_call10_c : Ref sig .tc := ⟨.hbm, 232, rfl⟩
abbrev main_call10_v0 : Ref sig .tc := ⟨.hbm, 233, rfl⟩
abbrev main_call10_v1 : Ref sig .tc := ⟨.hbm, 234, rfl⟩
abbrev main_call10_c_0 : Ref sig .tc := ⟨.hbm, 235, rfl⟩
abbrev main_call10_v2 : Ref sig .tc := ⟨.hbm, 236, rfl⟩
abbrev main_call10_v3 : Ref sig .tc := ⟨.hbm, 237, rfl⟩
abbrev main_call10_v4 : Ref sig .tc := ⟨.hbm, 238, rfl⟩
abbrev main_call10_v5 : Ref sig .tc := ⟨.hbm, 239, rfl⟩
abbrev main_call10_c_1 : Ref sig .tc := ⟨.hbm, 240, rfl⟩
abbrev main_call10_c_2 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_v11 : Ref sig .tc := ⟨.hbm, 247, rfl⟩
abbrev main_call10_c_3 : Ref sig .tc := ⟨.hbm, 248, rfl⟩
abbrev main_call10_v12 : Ref sig .tc := ⟨.hbm, 249, rfl⟩
abbrev main_call10_v13 : Ref sig .tc := ⟨.hbm, 250, rfl⟩
abbrev main_call10_cst : Ref sig .tc := ⟨.hbm, 251, rfl⟩
abbrev main_call10_v14 : Ref sig .tc := ⟨.hbm, 252, rfl⟩
abbrev main_v88 : Ref sig .tc := ⟨.hbm, 253, rfl⟩
abbrev main_v89 : Ref sig .tc := ⟨.hbm, 254, rfl⟩
abbrev main_v90 : Ref sig .tc := ⟨.hbm, 255, rfl⟩
abbrev main_call11_c : Ref sig .tc := ⟨.hbm, 256, rfl⟩
abbrev main_call11_v0 : Ref sig .tc := ⟨.hbm, 257, rfl⟩
abbrev main_call11_v1 : Ref sig .tc := ⟨.hbm, 258, rfl⟩
abbrev main_call11_c_0 : Ref sig .tc := ⟨.hbm, 259, rfl⟩
abbrev main_call11_v2 : Ref sig .tc := ⟨.hbm, 260, rfl⟩
abbrev main_call11_v3 : Ref sig .tc := ⟨.hbm, 261, rfl⟩
abbrev main_call11_v4 : Ref sig .tc := ⟨.hbm, 262, rfl⟩
abbrev main_call11_v5 : Ref sig .tc := ⟨.hbm, 263, rfl⟩
abbrev main_call11_c_1 : Ref sig .tc := ⟨.hbm, 264, rfl⟩
abbrev main_call11_c_2 : Ref sig .tc := ⟨.hbm, 265, rfl⟩
abbrev main_call11_v6 : Ref sig .tc := ⟨.hbm, 266, rfl⟩
abbrev main_call11_v7 : Ref sig .tc := ⟨.hbm, 267, rfl⟩
abbrev main_call11_v8 : Ref sig .tc := ⟨.hbm, 268, rfl⟩
abbrev main_call11_v9 : Ref sig .tc := ⟨.hbm, 269, rfl⟩
abbrev main_call11_v10 : Ref sig .tc := ⟨.hbm, 270, rfl⟩
abbrev main_call11_v11 : Ref sig .tc := ⟨.hbm, 271, rfl⟩
abbrev main_call11_c_3 : Ref sig .tc := ⟨.hbm, 272, rfl⟩
abbrev main_call11_v12 : Ref sig .tc := ⟨.hbm, 273, rfl⟩
abbrev main_call11_v13 : Ref sig .tc := ⟨.hbm, 274, rfl⟩
abbrev main_call11_cst : Ref sig .tc := ⟨.hbm, 275, rfl⟩
abbrev main_call11_v14 : Ref sig .tc := ⟨.hbm, 276, rfl⟩
abbrev main_v91 : Ref sig .tc := ⟨.hbm, 277, rfl⟩
abbrev main_v92 : Ref sig .tc := ⟨.hbm, 278, rfl⟩
abbrev main_v93 : Ref sig .tc := ⟨.hbm, 279, rfl⟩
abbrev main_call12_c : Ref sig .tc := ⟨.hbm, 280, rfl⟩
abbrev main_call12_v0 : Ref sig .tc := ⟨.hbm, 281, rfl⟩
abbrev main_call12_v1 : Ref sig .tc := ⟨.hbm, 282, rfl⟩
abbrev main_call12_c_0 : Ref sig .tc := ⟨.hbm, 283, rfl⟩
abbrev main_call12_v2 : Ref sig .tc := ⟨.hbm, 284, rfl⟩
abbrev main_call12_v3 : Ref sig .tc := ⟨.hbm, 285, rfl⟩
abbrev main_call12_v4 : Ref sig .tc := ⟨.hbm, 286, rfl⟩
abbrev main_call12_v5 : Ref sig .tc := ⟨.hbm, 287, rfl⟩
abbrev main_call12_c_1 : Ref sig .tc := ⟨.hbm, 288, rfl⟩
abbrev main_call12_c_2 : Ref sig .tc := ⟨.hbm, 289, rfl⟩
abbrev main_call12_v6 : Ref sig .tc := ⟨.hbm, 290, rfl⟩
abbrev main_call12_v7 : Ref sig .tc := ⟨.hbm, 291, rfl⟩
abbrev main_call12_v8 : Ref sig .tc := ⟨.hbm, 292, rfl⟩
abbrev main_call12_v9 : Ref sig .tc := ⟨.hbm, 293, rfl⟩
abbrev main_call12_v10 : Ref sig .tc := ⟨.hbm, 294, rfl⟩
abbrev main_call12_v11 : Ref sig .tc := ⟨.hbm, 295, rfl⟩
abbrev main_call12_c_3 : Ref sig .tc := ⟨.hbm, 296, rfl⟩
abbrev main_call12_v12 : Ref sig .tc := ⟨.hbm, 297, rfl⟩
abbrev main_call12_v13 : Ref sig .tc := ⟨.hbm, 298, rfl⟩
abbrev main_call12_cst : Ref sig .tc := ⟨.hbm, 299, rfl⟩
abbrev main_call12_v14 : Ref sig .tc := ⟨.hbm, 300, rfl⟩
abbrev main_v94 : Ref sig .tc := ⟨.hbm, 301, rfl⟩
abbrev main_v95 : Ref sig .tc := ⟨.hbm, 302, rfl⟩
abbrev main_v96 : Ref sig .tc := ⟨.hbm, 303, rfl⟩
abbrev main_v97 : Ref sig .tc := ⟨.hbm, 304, rfl⟩
abbrev main_v98 : Ref sig .tc := ⟨.hbm, 305, rfl⟩
abbrev main_v99 : Ref sig .tc := ⟨.hbm, 306, rfl⟩
abbrev main_cst_24 : Ref sig .tc := ⟨.hbm, 307, rfl⟩
abbrev main_v100 : Ref sig .tc := ⟨.hbm, 308, rfl⟩
abbrev main_v101 : Ref sig .tc := ⟨.hbm, 309, rfl⟩
abbrev main_v102 : Ref sig .tc := ⟨.hbm, 310, rfl⟩
abbrev main_v103 : Ref sig .tc := ⟨.hbm, 311, rfl⟩
abbrev main_cst_25 : Ref sig .tc := ⟨.hbm, 312, rfl⟩
abbrev main_v104 : Ref sig .tc := ⟨.hbm, 313, rfl⟩
abbrev main_v105 : Ref sig .tc := ⟨.hbm, 314, rfl⟩
abbrev main_v106 : Ref sig .tc := ⟨.hbm, 315, rfl⟩
abbrev main_v107 : Ref sig .tc := ⟨.hbm, 316, rfl⟩
abbrev main_v108 : Ref sig .tc := ⟨.hbm, 317, rfl⟩
abbrev main_v109 : Ref sig .tc := ⟨.hbm, 318, rfl⟩
abbrev main_v110 : Ref sig .tc := ⟨.hbm, 319, rfl⟩
abbrev main_v111 : Ref sig .tc := ⟨.hbm, 320, rfl⟩
abbrev main_cst_26 : Ref sig .tc := ⟨.hbm, 321, rfl⟩
abbrev main_v112 : Ref sig .tc := ⟨.hbm, 322, rfl⟩
abbrev main_v113 : Ref sig .tc := ⟨.hbm, 323, rfl⟩
abbrev main_v114 : Ref sig .tc := ⟨.hbm, 324, rfl⟩
abbrev main_v115 : Ref sig .tc := ⟨.hbm, 325, rfl⟩
abbrev main_v116 : Ref sig .tc := ⟨.hbm, 326, rfl⟩
abbrev main_v117 : Ref sig .tc := ⟨.hbm, 327, rfl⟩
abbrev main_v118 : Ref sig .tc := ⟨.hbm, 328, rfl⟩
abbrev main_v119 : Ref sig .tc := ⟨.hbm, 329, rfl⟩
abbrev main_v120 : Ref sig .tc := ⟨.hbm, 330, rfl⟩
abbrev main_cst_27 : Ref sig .tc := ⟨.hbm, 331, rfl⟩
abbrev main_v121 : Ref sig .tc := ⟨.hbm, 332, rfl⟩
abbrev main_v122 : Ref sig .tc := ⟨.hbm, 333, rfl⟩
abbrev main_v123 : Ref sig .tc := ⟨.hbm, 334, rfl⟩
abbrev main_cst_28 : Ref sig .tc := ⟨.hbm, 335, rfl⟩
abbrev main_v124 : Ref sig .tc := ⟨.hbm, 336, rfl⟩
abbrev main_v125 : Ref sig .tc := ⟨.hbm, 337, rfl⟩
abbrev main_v126 : Ref sig .tc := ⟨.hbm, 338, rfl⟩
abbrev main_v127 : Ref sig .tc := ⟨.hbm, 339, rfl⟩
abbrev main_cst_29 : Ref sig .tc := ⟨.hbm, 340, rfl⟩
abbrev main_v128 : Ref sig .tc := ⟨.hbm, 341, rfl⟩
abbrev main_v129 : Ref sig .tc := ⟨.hbm, 342, rfl⟩
abbrev main_v130 : Ref sig .tc := ⟨.hbm, 343, rfl⟩
abbrev main_v131 : Ref sig .tc := ⟨.hbm, 344, rfl⟩
abbrev main_v132 : Ref sig .tc := ⟨.hbm, 345, rfl⟩
abbrev main_v133 : Ref sig .tc := ⟨.hbm, 346, rfl⟩
abbrev main_v134 : Ref sig .tc := ⟨.hbm, 347, rfl⟩
abbrev main_v135 : Ref sig .tc := ⟨.hbm, 348, rfl⟩
abbrev main_v136 : Ref sig .tc := ⟨.hbm, 349, rfl⟩
abbrev main_cst_30 : Ref sig .tc := ⟨.hbm, 350, rfl⟩
abbrev main_call14_v0 : Ref sig .tc := ⟨.hbm, 351, rfl⟩
abbrev main_call14_v1 : Ref sig .tc := ⟨.hbm, 352, rfl⟩
abbrev main_v137 : Ref sig .tc := ⟨.hbm, 353, rfl⟩
abbrev main_v138 : Ref sig .tc := ⟨.hbm, 354, rfl⟩
abbrev main_v139 : Ref sig .tc := ⟨.hbm, 355, rfl⟩
abbrev main_cst_31 : Ref sig .tc := ⟨.hbm, 356, rfl⟩
abbrev main_v140 : Ref sig .tc := ⟨.hbm, 357, rfl⟩
abbrev main_v141 : Ref sig .tc := ⟨.hbm, 358, rfl⟩
abbrev main_v142 : Ref sig .tc := ⟨.hbm, 359, rfl⟩

abbrev nD : Nat := 1
abbrev τ : Topo := Topo.v7x

variable {F : FTy → Type} [FloatOps F]
-- ==== Proof.KBlock.lean ====
/- What one grid point of the kernel computes from the blocks it is given and from the two scratch buffers: the block
   of the first result (the first half of the rows copied, the second half sent through the spline) and the block of
   the second (the log density). -/
module

public import proofs.«01_k».proof.Proof.Gen.KernelIdeal.Frame
public import proofs.«01_k».proof.Proof.Gen.KernelIdeal.Skeleton
public import Idealize.ShloMosaic.Lib.ValueIdx
public import Idealize.ShloMosaic.Lib.WholeRead
public import Idealize.ShloMosaic.Lib.WritesUnit
public import Idealize.ShloMosaic.Lib.VecWindow

@[expose] public section

set_option maxRecDepth 16384

noncomputable section

namespace Cert.KernelIdeal.Spline

open Cert.KernelIdeal.Gen
open Idealize.ShloMosaic Idealize.ShloMosaic.TcCoe

variable {F : FTy → Type} [FloatOps F] [Named F]

/-- The body's one condition, as it reads off the grid coordinate. -/
abbrev cond0 (i : grid0.Coords) : Prop :=
  (Scalar.cmpi .ne (Scalar.extui (Scalar.cmpi .eq (BitVec.ofNat 32 (i 0).val) 0#32)) 0#32) = 1#1

/-- The mean and the reciprocal standard deviation, as the first point stores them. -/
def stats (x0 : Vec F S4096x512 .f32) : Vec F S2 .f32 := fun y => if (y 0).val = 0 then k0_pay1 x0 else k0_pay2 x0

/-- The first half of a block of rows. -/
def loHalf (x1 : Vec F S256x1024 .f32) : Vec F S256x512 .f32 :=
  fun y => x1 (ValueIdx.ix2 (y 0) ⟨(y 1).val, lt_trans (ValueIdx.idx2_lt1 y) (by norm_num)⟩)

/-- The second half of a block of rows. -/
def hiHalf (x1 : Vec F S256x1024 .f32) : Vec F S256x512 .f32 :=
  fun y => x1 (ValueIdx.ix2 (y 0) ⟨512 + (y 1).val, by have := ValueIdx.idx2_lt1 y; omega⟩)

/-- Every 23rd row of the transposed weight, from row `j` on. -/
def everyRow (wt : Vec F S11776x128 .f32) (j : Fin 23) : Vec F S512x128 .f32 :=
  fun y => wt (ValueIdx.ix2 ⟨j.val + 23 * (y 0).val, by have := ValueIdx.idx2_lt0 y; omega⟩ (y 1))

/-- The hidden layer of a block, transposed and scaled by the base-two logarithm of e. -/
def hid (lo : Vec F S256x512 .f32) (x3 : Vec F S512x128 .f32) (st : Vec F S2 .f32) : FVec F S128x256 .f32 :=
  k0_pay4 (st (ValueIdx.ix1 0)) (st (ValueIdx.ix1 1)) lo x3

/-- The `j`-th parameter of every spline of a block, before its exponential. -/
def par (rows : Fin 23 → Vec F S512x128 .f32) (h : FVec F S128x256 .f32) (j : Fin 23) : FVec F S512x256 .f32 :=
  matmul dot_S512x128_S128x256_S512x256_1_0_0_1_n_n none (rows j) h (constant S512x256 .f32 0x00000000#32)

/-- The sum of the eight bin heights, before normalising. -/
def totH (p : Fin 23 → FVec F S512x256 .f32) : FVec F S512x256 .f32 :=
  k0_pay45 (p 0) (p 1) (p 2) (p 3) (p 4) (p 5) (p 6) (p 7)

/-- The sum of the eight bin widths, before normalising. -/
def totW (p : Fin 23 → FVec F S512x256 .f32) : FVec F S512x256 .f32 :=
  k0_pay46 (p 8) (p 9) (p 10) (p 11) (p 12) (p 13) (p 14) (p 15)

/-- The seven inner slopes. -/
def slope (p : Fin 23 → FVec F S512x256 .f32) : Fin 7 → FVec F S512x256 .f32 :=
  ![k0_pay49 (k0_pay47 (p 16)) (k0_pay48 (F := F)), k0_pay50 (p 17), k0_pay51 (p 18), k0_pay52 (p 19), k0_pay53 (p 20),
    k0_pay55 (k0_pay54 (p 21)), k0_pay56 (p 22)]

/-- The point's position, scaled to the sum of the widths. -/
def thr (x : FVec F S512x256 .f32) (p : Fin 23 → FVec F S512x256 .f32) : FVec F S512x256 .f32 := k0_pay59 x (totW p)

/-- The sum of the first four widths. -/
def cw3 (p : Fin 23 → FVec F S512x256 .f32) : FVec F S512x256 .f32 :=
  k0_pay73 (k0_pay37 (p 8)) (k0_pay38 (p 9)) (k0_pay39 (p 10)) (k0_pay40 (p 11))

/-- The width of the bin among the first four. -/
def w3 (x : FVec F S512x256 .f32) (p : Fin 23 → FVec F S512x256 .f32) : FVec F S512x256 .f32 :=
  k0_pay67 x (k0_pay37 (p 8)) (k0_pay38 (p 9)) (k0_pay39 (p 10)) (k0_pay40 (p 11)) (totW p)

/-- The height of the bin among the first four. -/
def h3 (x : FVec F S512x256 .f32) (p : Fin 23 → FVec F S512x256 .f32) : FVec F S512x256 .f32 :=
  k0_pay68 x (k0_pay29 (p 0)) (k0_pay30 (p 1)) (k0_pay31 (p 2)) (k0_pay32 (p 3)) (k0_pay37 (p 8)) (k0_pay38 (p 9)) (k0_pay39 (p 10)) (totW p)

/-- The slope at the bin's left end, among the first four bins. -/
def d3 (x : FVec F S512x256 .f32) (p : Fin 23 → FVec F S512x256 .f32) : FVec F S512x256 .f32 :=
  k0_pay69 x (k0_pay37 (p 8)) (k0_pay38 (p 9)) (k0_pay39 (p 10)) (totW p) (slope p 0) (slope p 1) (slope p 2)

/-- The slope at the bin's right end, among the first four bins. -/
def e3 (x : FVec F S512x256 .f32) (p : Fin 23 → FVec F S512x256 .f32) : FVec F S512x256 .f32 :=
  k0_pay70 x (k0_pay37 (p 8)) (k0_pay38 (p 9)) (k0_pay39 (p 10)) (totW p) (slope p 0) (slope p 1) (slope p 2) (slope p 3)

/-- The bin's left end, among the first four bins. -/
def l3 (x : FVec F S512x256 .f32) (p : Fin 23 → FVec F S512x256 .f32) : FVec F S512x256 .f32 :=
  k0_pay71 x (k0_pay37 (p 8)) (k0_pay38 (p 9)) (k0_pay39 (p 10)) (totW p)

/-- The height reached at the bin's left end, among the first four bins. -/
def b3 (x : FVec F S512x256 .f32) (p : Fin 23 → FVec F S512x256 .f32) : FVec F S512x256 .f32 :=
  k0_pay72 x (k0_pay29 (p 0)) (k0_pay30 (p 1)) (k0_pay31 (p 2)) (k0_pay37 (p 8)) (k0_pay38 (p 9)) (k0_pay39 (p 10)) (totW p)

/-- The height of the point's bin. -/
def hK (x : FVec F S512x256 .f32) (p : Fin 23 → FVec F S512x256 .f32) : FVec F S512x256 .f32 :=
  k0_pay81 (k0_pay33 (p 4)) (k0_pay34 (p 5)) (k0_pay35 (p 6)) (k0_pay36 (p 7)) (k0_pay41 (p 12)) (k0_pay42 (p 13)) (k0_pay43 (p 14))
    (thr x p) (h3 x p) (cw3 p)

/-- The slope at the left end of the point's bin. -/
def dK (x : FVec F S512x256 .f32) (p : Fin 23 → FVec F S512x256 .f32) : FVec F S512x256 .f32 :=
  k0_pay82 (k0_pay41 (p 12)) (k0_pay42 (p 13)) (k0_pay43 (p 14)) (slope p 3) (slope p 4) (slope p 5) (slope p 6) (thr x p) (d3 x p) (cw3 p)

/-- The slope at the right end of the point's bin. -/
def eK (x : FVec F S512x256 .f32) (p : Fin 23 → FVec F S512x256 .f32) : FVec F S512x256 .f32 :=
  k0_pay83 (k0_pay41 (p 12)) (k0_pay42 (p 13)) (k0_pay43 (p 14)) (slope p 4) (slope p 5) (slope p 6) (k0_pay58 (F := F)) (thr x p) (e3 x p) (cw3 p)

/-- The height reached at the left end of the point's bin. -/
def bK (x : FVec F S512x256 .f32) (p : Fin 23 → FVec F S512x256 .f32) : FVec F S512x256 .f32 :=
  k0_pay84 (k0_pay32 (p 3)) (k0_pay33 (p 4)) (k0_pay34 (p 5)) (k0_pay35 (p 6)) (k0_pay41 (p 12)) (k0_pay42 (p 13)) (k0_pay43 (p 14))
    (thr x p) (k0_pay65 (k0_pay29 (p 0)) (k0_pay30 (p 1)) (k0_pay31 (p 2))) (b3 x p) (cw3 p)

/-- The bin's mean slope. -/
def sK (x : FVec F S512x256 .f32) (p : Fin 23 → FVec F S512x256 .f32) : FVec F S512x256 .f32 :=
  k0_pay88 (k0_pay33 (p 4)) (k0_pay34 (p 5)) (k0_pay35 (p 6)) (k0_pay36 (p 7)) (k0_pay41 (p 12)) (k0_pay42 (p 13)) (k0_pay43 (p 14)) (k0_pay44 (p 15))
    (totH p) (totW p) (thr x p) (w3 x p) (h3 x p) (cw3 p)

/-- The point's relative position in its bin. -/
def aK (x : FVec F S512x256 .f32) (p : Fin 23 → FVec F S512x256 .f32) : FVec F S512x256 .f32 :=
  k0_pay89 (k0_pay41 (p 12)) (k0_pay42 (p 13)) (k0_pay43 (p 14)) (k0_pay44 (p 15)) (thr x p) (w3 x p) (l3 x p) (cw3 p)

/-- One less the relative position. -/
def omK (x : FVec F S512x256 .f32) (p : Fin 23 → FVec F S512x256 .f32) : FVec F S512x256 .f32 :=
  k0_pay90 (k0_pay41 (p 12)) (k0_pay42 (p 13)) (k0_pay43 (p 14)) (k0_pay44 (p 15)) (thr x p) (w3 x p) (l3 x p) (cw3 p)

/-- The product of the two relative positions. -/
def aomK (x : FVec F S512x256 .f32) (p : Fin 23 → FVec F S512x256 .f32) : FVec F S512x256 .f32 :=
  k0_pay91 (k0_pay41 (p 12)) (k0_pay42 (p 13)) (k0_pay43 (p 14)) (k0_pay44 (p 15)) (thr x p) (w3 x p) (l3 x p) (cw3 p)

/-- The spline's denominator. -/
def denK (x : FVec F S512x256 .f32) (p : Fin 23 → FVec F S512x256 .f32) : FVec F S512x256 .f32 :=
  k0_pay92 (k0_pay33 (p 4)) (k0_pay34 (p 5)) (k0_pay35 (p 6)) (k0_pay36 (p 7)) (k0_pay41 (p 12)) (k0_pay42 (p 13)) (k0_pay43 (p 14)) (k0_pay44 (p 15))
    (totH p) (totW p) (slope p 3) (slope p 4) (slope p 5) (slope p 6) (k0_pay58 (F := F)) (thr x p) (w3 x p) (h3 x p) (d3 x p) (e3 x p) (l3 x p) (cw3 p)

/-- The second half of the block's rows after the spline. -/
def phi (x : FVec F S512x256 .f32) (p : Fin 23 → FVec F S512x256 .f32) : FVec F S256x512 .f32 :=
  k0_pay95 x (k0_pay57 x) (hK x p) (dK x p) (bK x p) (k0_pay87 (totH p)) (sK x p) (aK x p) (aomK x p) (denK x p)

/-- The block's log density after the spline. -/
def ldOf (x : FVec F S512x256 .f32) (p : Fin 23 → FVec F S512x256 .f32) (x2 : Vec F S256x1 .f32) : FVec F S256x1 .f32 :=
  k0_pay96 x (k0_pay57 x) (dK x p) (eK x p) (sK x p) (aK x p) (omK x p) (aomK x p) (denK x p) x2

/-- The block of the first result. -/
def outX (x1 : Vec F S256x1024 .f32) (x3 : Vec F S512x128 .f32) (wt : Vec F S11776x128 .f32) (st : Vec F S2 .f32) : Vec F S256x1024 .f32 :=
  fun y => if (y 1).val < 512 then x1 y
    else phi (k0_pay5 (hiHalf x1)) (par (everyRow wt) (hid (loHalf x1) x3 st)) (ValueIdx.ix2 (y 0) ⟨(y 1).val - 512, by have := ValueIdx.idx2_lt1 y; omega⟩)

/-- The block of the second result. -/
def outLd (x1 : Vec F S256x1024 .f32) (x2 : Vec F S256x1 .f32) (x3 : Vec F S512x128 .f32) (wt : Vec F S11776x128 .f32) (st : Vec F S2 .f32) :
    Vec F S256x1 .f32 := ldOf (k0_pay5 (hiHalf x1)) (par (everyRow wt) (hid (loHalf x1) x3 st)) x2

/-! ## The loads the body makes, as the functions above -/

variable {κ : Kind} {sp : Space}

theorem read_lo {a : Memref sig κ sp S256x1024 .f32} (h : a.IsWhole) (x : Vec F S256x1024 .f32) :
    View.readAt (Elt F) a.view (Rect.unit (s := S256x1024) ![0, 0] S256x512.size inb_S256x1024_S256x512_0_0).toLoadRect (h.unread x) = loHalf x :=
  funext fun y => (h.readAt_unread x _ y).trans (congrArg x (funext fun d => match d with
    | ⟨0, _⟩ => Fin.ext (by show 0 + 1 * (y 0).val = (y 0).val; omega)
    | ⟨1, _⟩ => Fin.ext (by show 0 + 1 * (y 1).val = (y 1).val; omega)))

theorem read_hi {a : Memref sig κ sp S256x1024 .f32} (h : a.IsWhole) (x : Vec F S256x1024 .f32) :
    View.readAt (Elt F) a.view (Rect.unit (s := S256x1024) ![0, 512] S256x512.size inb_S256x1024_S256x512_0_512).toLoadRect (h.unread x) = hiHalf x :=
  funext fun y => (h.readAt_unread x _ y).trans (congrArg x (funext fun d => match d with
    | ⟨0, _⟩ => Fin.ext (by show 0 + 1 * (y 0).val = (y 0).val; omega)
    | ⟨1, _⟩ => Fin.ext (by show 512 + 1 * (y 1).val = 512 + (y 1).val; omega)))

/-- Every 23rd row of the transposed weight from row `j` on, as the rectangle a load names. -/
def rowBox (j : Fin 23) : LoadRect S11776x128 where
  off := ![j.val, 0]
  size := S512x128.size
  stride := ![23, 1]
  inb a := match a with
    | ⟨0, _⟩ => .inr (by show j.val + 23 * (512 - 1) < 11776; omega)
    | ⟨1, _⟩ => .inr (by show 0 + 1 * (128 - 1) < 128; omega)

/-- The rows a load of every 23rd row finds, the buffer holding `x`. -/
theorem read_row {a : Memref sig κ sp S11776x128 .f32} (f : a.view.ty.Contents (Elt F)) (x : Vec F S11776x128 .f32)
    (hf : View.read (Elt F) a.view f = x) (j : Fin 23) :
    View.readAt (Elt F) a.view (rowBox j) f = everyRow x j := by
  subst hf
  exact funext fun y => congrArg (View.read (Elt F) a.view f) (funext fun d => match d with
    | ⟨0, _⟩ => Fin.ext (by show j.val + 23 * (y 0).val = j.val + 23 * (y 0).val; rfl)
    | ⟨1, _⟩ => Fin.ext (by show 0 + 1 * (y 1).val = (y 1).val; omega))

/-- A load of a whole rank-two buffer from its origin reads the contents. -/
theorem read_all {n0 n1 : ℕ} {a : Memref sig κ sp ⟨2, ![n0, n1]⟩ .f32} (h : a.IsWhole) (x : Vec F ⟨2, ![n0, n1]⟩ .f32) (inb) :
    View.readAt (Elt F) a.view (Rect.unit (s := ⟨2, ![n0, n1]⟩) ![0, 0] ![n0, n1] inb).toLoadRect (h.unread x) = x :=
  funext fun y => (h.readAt_unread x _ y).trans (congrArg x (funext fun d => match d with
    | ⟨0, _⟩ => Fin.ext (by show 0 + 1 * (y 0).val = (y 0).val; omega)
    | ⟨1, _⟩ => Fin.ext (by show 0 + 1 * (y 1).val = (y 1).val; omega)))

/-- A load of one word of the two statistics. -/
theorem read_word {a : Memref sig κ sp S2 .f32} (h : a.IsWhole) (x : Vec F S2 .f32) (j : Fin 2) (inb) :
    View.readAt (Elt F) a.view (Rect.unit (s := S2) ![j.val] S1.size inb).toLoadRect (h.unread x) (Shape.Idx.first (show 0 < S1.numel by rw [numel1_S1]; exact one_pos)) = x (ValueIdx.ix1 j) :=
  (h.readAt_unread x _ _).trans (congrArg x (funext fun d => match d with
    | ⟨0, _⟩ => Fin.ext (by show j.val + 1 * 0 = j.val; omega)))

/-- The two statistics stored one after the other. -/
theorem stats_read (v : View sig κ sp S2 .f32) (f : v.ty.Contents (Elt F)) (x0 : Vec F S4096x512 .f32) (inb0) (inb1) :
    View.read (Elt F) v (v.writes (Elt F) f
      [⟨Rect.unit (s := S2) ![1] S1.size inb1, fun _ => k0_pay2 x0⟩, ⟨Rect.unit (s := S2) ![0] S1.size inb0, fun _ => k0_pay1 x0⟩]) = stats x0 := by
  funext y
  unfold stats
  split
  · rename_i h
    refine (View.read_writes_cons_unit_of_not_mem v f (off' := ![1]) _ _ _ y rfl 0 (Or.inl (by show (y 0).val < 1; omega))).trans ?_
    exact View.read_writes_cons_unit_of_mem v f (off' := ![0]) _ _ _ y (ValueIdx.ix1 0) rfl
      (fun d => match d with | ⟨0, _⟩ => h)
  · rename_i h
    have hy : (y 0).val < 2 := (y 0).isLt
    exact View.read_writes_cons_unit_of_mem v f (off' := ![1]) _ _ _ y (ValueIdx.ix1 0) rfl
      (fun d => match d with | ⟨0, _⟩ => (by show (y 0).val = 1 + 0; omega))

/-- A block of the first result, its two halves stored one after the other. -/
theorem read_outX (v : View sig κ sp S256x1024 .f32) (f : v.ty.Contents (Elt F)) (x1 : Vec F S256x1024 .f32)
    (x3 : Vec F S512x128 .f32) (wt : Vec F S11776x128 .f32) (st : Vec F S2 .f32) {inb0} {inb1} {lo hi : Vec F S256x512 .f32}
    (hlo : lo = loHalf x1) (hhi : hi = phi (k0_pay5 (hiHalf x1)) (par (everyRow wt) (hid (loHalf x1) x3 st))) :
    View.read (Elt F) v (v.writes (Elt F) f
      [⟨Rect.unit (s := S256x1024) ![0, 512] S256x512.size inb1, hi⟩, ⟨Rect.unit (s := S256x1024) ![0, 0] S256x512.size inb0, lo⟩]) = outX x1 x3 wt st := by
  funext y
  have hy := ValueIdx.idx2_lt1 y
  unfold outX
  split
  · rename_i h
    refine (View.read_writes_cons_unit_of_not_mem v f (off' := ![0, 512]) _ _ _ y rfl 1 (Or.inl h)).trans ?_
    refine (View.read_writes_cons_unit_of_mem v f (off' := ![0, 0]) _ _ _ y
      (ValueIdx.ix2 (y 0) ⟨(y 1).val, h⟩ : S256x512.Idx) rfl
      (fun d => match d with | ⟨0, _⟩ => (Nat.zero_add _).symm | ⟨1, _⟩ => (Nat.zero_add _).symm)).trans ?_
    rw [hlo]
    exact congrArg x1 (ValueIdx.eq_ix2 y).symm
  · rename_i h
    refine (View.read_writes_cons_unit_of_mem v f (off' := ![0, 512]) _ _ _ y
      (ValueIdx.ix2 (y 0) ⟨(y 1).val - 512, by omega⟩ : S256x512.Idx) rfl
      (fun d => match d with
        | ⟨0, _⟩ => (Nat.zero_add _).symm
        | ⟨1, _⟩ => (by show (y 1).val = 512 + ((y 1).val - 512); omega))).trans ?_
    rw [hhi]

end Cert.KernelIdeal.Spline
-- ==== Proof.KRunA.lean ====
module

public import proofs.«01_k».proof.Proof.KBlock

@[expose] public section

set_option maxRecDepth 16384

noncomputable section

namespace Cert.KernelIdeal.Spline

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1600000 in
/-- The body at the first point: the statistics and the transposed second weight are stored, then the block computed from them. -/
theorem runA (c : Dev nD) (i : grid0.Coords) (arg1 : Memref sig .tc .vmem S4096x512 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S512x128 .f32) (harg4 : arg4.IsWhole) (arg5 : Memref sig .tc .vmem S128x11776 .f32) (harg5 : arg5.IsWhole) (arg6 : Memref sig .tc .vmem S256x1024 .f32) (harg6 : arg6.IsWhole) (arg7 : Memref sig .tc .vmem S256x1 .f32) (harg7 : arg7.IsWhole) (arg8 : Memref sig .tc .vmem S11776x128 .f32) (harg8 : arg8.IsWhole) (arg9 : Memref sig .tc .smem S2 .f32) (harg9 : arg9.IsWhole)
    (hc0 : cond0 i)
    (x0 : Vec F S4096x512 .f32) (x1 : Vec F S256x1024 .f32) (x2 : Vec F S256x1 .f32) (x3 : Vec F S512x128 .f32) (x4 : Vec F S128x11776 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outX x1 x3 (k0_pay3 x4) (stats x0)) ∗ owns (c : Thread nD τ) arg7 fullShare (outLd x1 x2 x3 (k0_pay3 x4) (stats x0)) ∗ owns (c : Thread nD τ) arg8 fullShare (k0_pay3 x4) ∗ owns (c : Thread nD τ) arg9 fullShare (stats x0)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9) K := by
  simp only [cc0__main_body_eq_skeleton]; unfold cc0__main_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  have hx0 : x0 = View.readAt (Elt F) arg1.view (Rect.unit (s := S4096x512) ![0, 0] S4096x512.size inb_S4096x512_S4096x512_0_0).toLoadRect (harg1.unread x0) := (read_all harg1 x0 _).symm
  have hx4 : x4 = View.readAt (Elt F) arg5.view (Rect.unit (s := S128x11776) ![0, 0] S128x11776.size inb_S128x11776_S128x11776_0_0).toLoadRect (harg5.unread x4) := (read_all harg5 x4 _).symm
  have hrow : everyRow (k0_pay3 x4) = fun j => View.readCov (Val := Elt F) arg8.view [⟨Rect.unit (s := S11776x128) ![0, 0] S11776x128.size inb_S11776x128_S11776x128_0_0, k0_pay3 (View.readAt (Elt F) arg5.view (Rect.unit (s := S128x11776) ![0, 0] S128x11776.size inb_S128x11776_S128x11776_0_0).toLoadRect (harg5.unread x4))⟩] (rowBox j) :=
    funext fun j => (read_row _ _ ((View.read_writes_full _ _ _ _ _).trans (congrArg k0_pay3 hx4.symm)) j).symm
  have hst0 : stats x0 (ValueIdx.ix1 0) = k0_pay1 (View.readAt (Elt F) arg1.view (Rect.unit (s := S4096x512) ![0, 0] S4096x512.size inb_S4096x512_S4096x512_0_0).toLoadRect (harg1.unread x0)) := (if_pos rfl).trans (congrArg k0_pay1 hx0)
  have hst1 : stats x0 (ValueIdx.ix1 1) = k0_pay2 (View.readAt (Elt F) arg1.view (Rect.unit (s := S4096x512) ![0, 0] S4096x512.size inb_S4096x512_S4096x512_0_0).toLoadRect (harg1.unread x0)) := (if_neg (by decide)).trans (congrArg k0_pay2 hx0)
  have hlo : loHalf x1 = View.readAt (Elt F) arg2.view (Rect.unit (s := S256x1024) ![0, 0] S256x512.size inb_S256x1024_S256x512_0_0).toLoadRect (harg2.unread x1) := (read_lo harg2 x1).symm
  have hhi : hiHalf x1 = View.readAt (Elt F) arg2.view (Rect.unit (s := S256x1024) ![0, 512] S256x512.size inb_S256x1024_S256x512_0_512).toLoadRect (harg2.unread x1) := (read_hi harg2 x1).symm
  have hx2 : x2 = View.readAt (Elt F) arg3.view (Rect.unit (s := S256x1) ![0, 0] S256x1.size inb_S256x1_S256x1_0_0).toLoadRect (harg3.unread x2) := (read_all harg3 x2 _).symm
  have hx3 : x3 = View.readAt (Elt F) arg4.view (Rect.unit (s := S512x128) ![0, 0] S512x128.size inb_S512x128_S512x128_0_0).toLoadRect (harg4.unread x3) := (read_all harg4 x3 _).symm
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_outX arg6.view f5 x1 _ _ _ hlo.symm ?_
    conv_rhs => rw [hrow, hid, hst0, hst1, hlo, hhi, hx3]
    rfl
  isplitl [H6]
  · iexists _; isplitr; swap; · iexact H6
    ipureintro
    refine (View.read_writes_full _ _ _ _ _).trans ?_
    conv_rhs => rw [outLd, hrow, hid, hst0, hst1, hlo, hhi, hx3, hx2]
    rfl
  isplitl [HS0]
  · iexists _; isplitr; swap; · iexact HS0
    ipureintro
    exact (View.read_writes_full _ _ _ _ _).trans (congrArg k0_pay3 hx4.symm)
  iexists _; isplitr; swap; · iexact HS1
  ipureintro
  exact (stats_read arg9.view fs1 _ _ _).trans (congrArg stats hx0.symm)

end Cert.KernelIdeal.Spline

end
-- ==== Proof.KRunB.lean ====
module

public import proofs.«01_k».proof.Proof.KBlock

@[expose] public section

set_option maxRecDepth 16384

noncomputable section

namespace Cert.KernelIdeal.Spline

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1600000 in
/-- The body at a later point: the statistics and the transposed weight stand as the first point left them, and the block is computed from them. -/
theorem runB (c : Dev nD) (i : grid0.Coords) (arg1 : Memref sig .tc .vmem S4096x512 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S512x128 .f32) (harg4 : arg4.IsWhole) (arg5 : Memref sig .tc .vmem S128x11776 .f32) (harg5 : arg5.IsWhole) (arg6 : Memref sig .tc .vmem S256x1024 .f32) (harg6 : arg6.IsWhole) (arg7 : Memref sig .tc .vmem S256x1 .f32) (harg7 : arg7.IsWhole) (arg8 : Memref sig .tc .vmem S11776x128 .f32) (harg8 : arg8.IsWhole) (arg9 : Memref sig .tc .smem S2 .f32) (harg9 : arg9.IsWhole)
    (hc0 : ¬ cond0 i)
    (x0 : Vec F S4096x512 .f32) (x1 : Vec F S256x1024 .f32) (x2 : Vec F S256x1 .f32) (x3 : Vec F S512x128 .f32) (x4 : Vec F S128x11776 .f32) (wt : Vec F S11776x128 .f32) (st : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare wt ∗ owns (c : Thread nD τ) arg9 fullShare st
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outX x1 x3 wt st) ∗ owns (c : Thread nD τ) arg7 fullShare (outLd x1 x2 x3 wt st) ∗ owns (c : Thread nD τ) arg8 fullShare wt ∗ owns (c : Thread nD τ) arg9 fullShare st) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9) K := by
  simp only [cc0__main_body_eq_skeleton]; unfold cc0__main_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg8.eq_unread hfs0; obtain rfl := harg9.eq_unread hfs1
  sl_exec (disch := first | sl_exact hc0)
  sl_step
  have hrow : everyRow wt = fun j => View.readAt (Elt F) arg8.view (rowBox j) (harg8.unread wt) :=
    funext fun j => (read_row _ _ (harg8.read_unread wt) j).symm
  have hst0 : st (ValueIdx.ix1 0) = View.readAt (Elt F) arg9.view (Rect.unit (s := S2) ![0] S1.size inb_S2_S1_0).toLoadRect (harg9.unread st) (Shape.Idx.first (show 0 < S1.numel by rw [numel1_S1]; exact one_pos)) := (read_word harg9 st 0 _).symm
  have hst1 : st (ValueIdx.ix1 1) = View.readAt (Elt F) arg9.view (Rect.unit (s := S2) ![1] S1.size inb_S2_S1_1).toLoadRect (harg9.unread st) (Shape.Idx.first (show 0 < S1.numel by rw [numel1_S1]; exact one_pos)) := (read_word harg9 st 1 _).symm
  have hlo : loHalf x1 = View.readAt (Elt F) arg2.view (Rect.unit (s := S256x1024) ![0, 0] S256x512.size inb_S256x1024_S256x512_0_0).toLoadRect (harg2.unread x1) := (read_lo harg2 x1).symm
  have hhi : hiHalf x1 = View.readAt (Elt F) arg2.view (Rect.unit (s := S256x1024) ![0, 512] S256x512.size inb_S256x1024_S256x512_0_512).toLoadRect (harg2.unread x1) := (read_hi harg2 x1).symm
  have hx2 : x2 = View.readAt (Elt F) arg3.view (Rect.unit (s := S256x1) ![0, 0] S256x1.size inb_S256x1_S256x1_0_0).toLoadRect (harg3.unread x2) := (read_all harg3 x2 _).symm
  have hx3 : x3 = View.readAt (Elt F) arg4.view (Rect.unit (s := S512x128) ![0, 0] S512x128.size inb_S512x128_S512x128_0_0).toLoadRect (harg4.unread x3) := (read_all harg4 x3 _).symm
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_outX arg6.view f5 x1 _ _ _ hlo.symm ?_
    conv_rhs => rw [hrow, hid, hst0, hst1, hlo, hhi, hx3]
    rfl
  isplitl [H6]
  · iexists _; isplitr; swap; · iexact H6
    ipureintro
    refine (View.read_writes_full _ _ _ _ _).trans ?_
    conv_rhs => rw [outLd, hrow, hid, hst0, hst1, hlo, hhi, hx3, hx2]
    rfl
  isplitl [HS0]
  · iexists _; isplitr; swap; · iexact HS0
    ipureintro
    exact harg8.read_unread _
  iexists _; isplitr; swap; · iexact HS1
  ipureintro
  exact harg9.read_unread _

end Cert.KernelIdeal.Spline

end
-- ==== Proof.KLaunch.lean ====
module

public import proofs.«01_k».proof.Proof.KRunA
public import proofs.«01_k».proof.Proof.KRunB
public import proofs.«01_k».proof.Proof.Gen.KernelIdeal.Frame
public import Idealize.ShloMosaic.Lib.Pipeline.ValueKit

@[expose] public section

set_option maxRecDepth 16384

noncomputable section

namespace Cert.KernelIdeal.Spline

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first half of every row of `x_input`. -/
def firstHalf (X : Vec F S4096x1024 .f32) : Vec F S4096x512 .f32 :=
  fun y => X (ValueIdx.ix2 (y 0) ⟨(y 1).val, Nat.lt_trans (ValueIdx.idx2_lt1 y) (by decide)⟩)

/-- Rows `256 t` to `256 t + 255` of an array of 4096 rows. -/
def rowsAt {n : ℕ} (X : Vec F ⟨2, ![4096, n]⟩ .f32) (t : Fin 16) : Vec F ⟨2, ![256, n]⟩ .f32 :=
  fun y => X (ValueIdx.ix2 ⟨256 * t.val + (y 0).val, by have := ValueIdx.idx2_lt0 y; omega⟩ (y 1))

/-- The point, as a number below 16. -/
def pt (t : Fin cfg0.N) : Fin 16 := t.cast N_0

/-- Every window's block index at a point. -/
theorem idx : ∀ t : Fin grid0.N, win0_0.index t = ![0, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] := by
  decide +kernel

/-- The first input's block is the first half of `x_input`, at every point. -/
theorem iblk0 (c : Dev nD) (t : Fin cfg0.N) : iblk m c 0 t = firstHalf (m ((c : Thread nD τ).loc main_arg0)) := by
  funext y
  unfold firstHalf
  blk_ext [iblk, V, idx t]

/-- The second input's block at point `t` is rows `256 t` to `256 t + 255` of `x_input`. -/
theorem iblk1 (c : Dev nD) (t : Fin cfg0.N) : iblk m c 1 t = rowsAt (m ((c : Thread nD τ).loc main_arg0)) (pt t) := by
  funext y
  unfold rowsAt pt
  blk_ext [iblk, V, idx t]
  show t.val * 256 + (y 0).val = 256 * t.val + (y 0).val
  omega

/-- The third input's block at point `t` is rows `256 t` to `256 t + 255` of `log_density`. -/
theorem iblk2 (c : Dev nD) (t : Fin cfg0.N) : iblk m c 2 t = rowsAt (m ((c : Thread nD τ).loc main_arg1)) (pt t) := by
  funext y
  unfold rowsAt pt
  blk_ext [iblk, V, idx t]
  show t.val * 256 + (y 0).val = 256 * t.val + (y 0).val
  omega

/-- The fourth input's block is `W1`. -/
theorem iblk3 (c : Dev nD) (t : Fin cfg0.N) : iblk m c 3 t = m ((c : Thread nD τ).loc main_arg3) := by
  funext y
  blk_ext [iblk, V, idx t]

/-- The fifth input's block is `W2`. -/
theorem iblk4 (c : Dev nD) (t : Fin cfg0.N) : iblk m c 4 t = m ((c : Thread nD τ).loc main_arg5) := by
  funext y
  blk_ext [iblk, V, idx t]

/-! ## What stays between the points -/

/-- What the first scratch holds from the first point on: `W2` turned on its side. -/
def keptW (c : Dev nD) : Vec F S11776x128 .f32 := k0_pay3 (m ((c : Thread nD τ).loc main_arg5))

/-- What the second scratch holds from the first point on: the two statistics of the first half of `x_input`. -/
def keptS (c : Dev nD) : Vec F S2 .f32 := stats (firstHalf (m ((c : Thread nD τ).loc main_arg0)))

/-- The branch is taken at the first point only. -/
theorem hcond : ∀ t : Fin cfg0.N, cond0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [cond0, e0, e1]
    word_cmp
   : ∀ t : Fin grid0.N, cond0 (grid0.coords t) ↔ t.val = 0)

/-- Window 0's current staging memref at point `t`. -/
abbrev ms0 (t : Fin cfg0.N) : Memref sig .tc .vmem S4096x512 .f32 := win0_0.stage (cfg0.slots t 0)
/-- Window 1's current staging memref at point `t`. -/
abbrev ms1 (t : Fin cfg0.N) : Memref sig .tc .vmem S256x1024 .f32 := win0_1.stage (cfg0.slots t 1)
/-- Window 2's current staging memref at point `t`. -/
abbrev ms2 (t : Fin cfg0.N) : Memref sig .tc .vmem S256x1 .f32 := win0_2.stage (cfg0.slots t 2)
/-- Window 3's current staging memref at point `t`. -/
abbrev ms3 (t : Fin cfg0.N) : Memref sig .tc .vmem S512x128 .f32 := win0_3.stage (cfg0.slots t 3)
/-- Window 4's current staging memref at point `t`. -/
abbrev ms4 (t : Fin cfg0.N) : Memref sig .tc .vmem S128x11776 .f32 := win0_4.stage (cfg0.slots t 4)
/-- Window 5's current staging memref at point `t`. -/
abbrev ms5 (t : Fin cfg0.N) : Memref sig .tc .vmem S256x1024 .f32 := win0_5.stage (cfg0.slots t 5)
/-- Window 6's current staging memref at point `t`. -/
abbrev ms6 (t : Fin cfg0.N) : Memref sig .tc .vmem S256x1 .f32 := win0_6.stage (cfg0.slots t 6)
/-- The two scratch buffers. -/
abbrev sc0 : Memref sig .tc .vmem S11776x128 .f32 := Memref.whole cc0_scratch0
abbrev sc1 : Memref sig .tc .smem S2 .f32 := Memref.whole cc0_scratch1

/-- Before the first point the two scratch buffers are owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- From the first point on they hold what that point stored. -/
def held (c : Dev nD) : sProp 𝕄 :=
  iprop(iprop(owns (c : Thread nD τ) sc0 fullShare (keptW m c) ∗ owns (c : Thread nD τ) sc1 fullShare (keptS m c)) ∗ (∃ r, prngReg c r))

/-- The pipeline's data: the arrays as launched; after point `t` each input's buffer at its block, the results' at what
    the block computes; the invariant, the two scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outX (iblk m c 1 t) (iblk m c 3 t) (keptW m c) (keptS m c)
    | ⟨6, _⟩ => outLd (iblk m c 1 t) (iblk m c 2 t) (iblk m c 3 t) (keptW m c) (keptS m c)
  Φ t := if t.val = 0 then Pipeline.ΦA spec0 c else held m c
  q w := Pipeline.shareOf spec0 w
  owed _ := 0

/-- The data's arrays are the launch's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = outX (iblk m c 1 t) (iblk m c 3 t) (keptW m c) (keptS m c) := by dsimp only [dats]
theorem after_6 (c : Dev nD) (t : Fin cfg0.N) : (dats m 0 c).after 6 t = outLd (iblk m c 1 t) (iblk m c 2 t) (iblk m c 3 t) (keptW m c) (keptS m c) := by dsimp only [dats]

/-- Before the first point the invariant is the launch's; later, what the first point stored. -/
theorem Phi_first (c : Dev nD) (t : Fin (cfg0.N + 1)) (h : t.val = 0) : (dats m 0 c).Φ t = Pipeline.ΦA spec0 c := if_pos h
theorem Phi_later (c : Dev nD) (t : Fin (cfg0.N + 1)) (h : t.val ≠ 0) : (dats m 0 c).Φ t = held m c := if_neg h

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t))

set_option maxHeartbeats 1600000 in
/-- The body, called at any point, returns what the data state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [Phi_later m c t.succ (Nat.succ_ne_zero _),
    show (dats m 0 c).owesAt () t.succ = (dats m 0 c).owesAt () t.castSucc from rfl,
    after_0, after_1, after_2, after_3, after_4, after_5, after_6]
  by_cases h0 : t.val = 0
  · have e0 : stats (iblk m c 0 t) = keptS m c := congrArg stats (iblk0 m c t)
    have e4 : k0_pay3 (iblk m c 4 t) = keptW m c := congrArg k0_pay3 (iblk4 m c t)
    unfold held
    rw [← e0, ← e4]
    rw [Phi_first m c t.castSucc h0, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ ((hcond t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_later m c t.castSucc h0]
    unfold held
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ (fun h => h0 ((hcond t).mp h)) (iblk m c 0 t) (iblk m c 1 t) (iblk m c 2 t) (iblk m c 3 t) (iblk m c 4 t) (keptW m c) (keptS m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as called above. -/
theorem defs₀_row (t : Fin cfg0.N) :
    defs₀ (F := F) .tc cfg0.body (cfg0.bodyArgs t (cfg0.slots t)) = bodyAt0 t := by
  unfold defs₀; rw [Defs.onTc_tc]

/-- The obligation the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- After the last point the scratch buffers are given back at some contents. -/
theorem Phi_out (c : Dev nD) : (dats m 0 c).Φ (Fin.last cfg0.N) ⊢ Pipeline.ΦA spec0 c := by
  rw [Phi_later m c _ (by rw [Fin.val_last, show cfg0.N = 16 from N_0]; decide), PhiA_eq]
  unfold held
  iintro ⟨⟨H0, H1⟩, Hg⟩
  isplitl [H0 H1]
  · isplitl [H0]
    · iexists _; iexact H0
    iexists _; iexact H1
  iexact Hg

set_option backward.isDefEq.respectTransparency.types false in
/-- Every run ends with the arrays at what the data give and every semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Entails.of_eq (Phi_first m c 0 rfl).symm)
    (hout := fun c => Phi_out m c)

/-- Every run leaves the argument arrays as they were and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Spline

end
-- ==== Proof.Frames.lean ====
module

public import proofs.«01_k».proof.Defs
public import proofs.«01_k».proof.Proof.PLaunch
public import proofs.«01_k».proof.Proof.KLaunch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

/-! # The claims that state no value

The three programs run, leave their arguments as they were and every semaphore at zero; and each constant the kernel
names is the rounding of the real its name stands for. -/

namespace Cert.Proof.Plain

open Idealize.ShloMosaic Idealize.SL.Sem

/-- The kernel runs, on every input. -/
theorem kernel : Cert.quiescent_Kernel := fun m ρ _ => Cert.Kernel.Spline.frame_all m ρ

/-- The kernel over the extended reals runs, on every input. -/
theorem ideal : Cert.quiescent_KernelIdeal := fun m ρ _ => Cert.KernelIdeal.Spline.frame_all m ρ

/-- The reference over the extended reals runs, on every input. -/
theorem reference : Cert.quiescent_ReferenceIdeal := fun m ρ _ =>
  (θ_run Cert.ReferenceIdeal.defs _ _).mono (fun r h => ⟨fun c => (h c).2.2,
      sem_eq_zero_of_no_sems (by decide) r.2⟩)
    (Cert.ReferenceIdeal.Value.run (F := Ideal) m ρ)

/-- The named constants: the reciprocal of the logarithm of two, the logarithm of two, a tenth, and a tenth of the
    reference's small left overhang. -/
theorem constants : Cert.preserves_Kernel_KernelIdeal :=
  ⟨IdealRules.named_const.statement Cert.KernelIdeal.κ "log2e" .f32 0x3FB8AA3B#32 _ rfl,
   IdealRules.named_const.statement Cert.KernelIdeal.κ "ln2" .f32 0x3F317218#32 _ rfl,
   IdealRules.named_const.statement Cert.KernelIdeal.κ "tenth" .f32 0x3DCCCCCD#32 _ rfl,
   IdealRules.named_const.statement Cert.KernelIdeal.κ "eps_tenth" .f32 0xB3D6BF95#32 _ rfl⟩

end Cert.Proof.Plain

end

end
-- ==== Proof.Consts.lean ====
module

public import proofs.«01_k».proof.KernelIdeal
public import Idealize.ShloMosaic.PureOps.Ideal
public import Idealize.ShloMosaic.PureOps.IdealRules

@[expose] public section

noncomputable section

/-! # The constants the two programs spell, as extended reals -/

namespace Cert.Consts

open Idealize.ShloMosaic

/-- The pattern of one. -/
theorem bits_one : Ideal.ofBits .f32 0x3F800000#32 = ((1 : ℝ) : EReal) := by
  simp [Ideal.ofBits, Ideal.ieee, -EReal.coe_mul]; norm_num
/-- The pattern of zero. -/
theorem bits_zero : Ideal.ofBits .f32 0x00000000#32 = ((0 : ℝ) : EReal) := by
  simp [Ideal.ofBits, Ideal.ieee, -EReal.coe_mul]
/-- The pattern of two. -/
theorem bits_two : Ideal.ofBits .f32 0x40000000#32 = ((2 : ℝ) : EReal) := by
  simp [Ideal.ofBits, Ideal.ieee, -EReal.coe_mul]; norm_num
/-- The pattern of five. -/
theorem bits_five : Ideal.ofBits .f32 0x40A00000#32 = ((5 : ℝ) : EReal) := by
  simp [Ideal.ofBits, Ideal.ieee, -EReal.coe_mul]; norm_num
/-- The pattern of minus five. -/
theorem bits_neg_five : Ideal.ofBits .f32 0xC0A00000#32 = ((-5 : ℝ) : EReal) := by
  simp [Ideal.ofBits, Ideal.ieee, -EReal.coe_mul]; norm_num
/-- The pattern of ten. -/
theorem bits_ten : Ideal.ofBits .f32 0x41200000#32 = ((10 : ℝ) : EReal) := by
  simp [Ideal.ofBits, Ideal.ieee, -EReal.coe_mul]; norm_num
/-- The pattern of the number of entries of the first half. -/
theorem bits_count : Ideal.ofBits .f32 0x4A000000#32 = ((2097152 : ℝ) : EReal) := by
  simp [Ideal.ofBits, Ideal.ieee, -EReal.coe_mul]; norm_num
/-- The pattern of that number less one. -/
theorem bits_count_pred : Ideal.ofBits .f32 0x49FFFFF8#32 = ((2097151 : ℝ) : EReal) := by
  simp [Ideal.ofBits, Ideal.ieee, -EReal.coe_mul]; norm_num
/-- The pattern of the small left overhang. -/
theorem bits_eps : Ideal.ofBits .f32 0xB58637BD#32 = ((-8796093 / 8796093022208 : ℝ) : EReal) := by
  simp [Ideal.ofBits, Ideal.ieee, -EReal.coe_mul]; norm_num
/-- The pattern of plus infinity. -/
theorem bits_top : Ideal.ofBits .f32 0x7F800000#32 = ⊤ := by
  simp [Ideal.ofBits, Ideal.ieee, -EReal.coe_mul]
/-- The pattern of minus infinity. -/
theorem bits_bot : Ideal.ofBits .f32 0xFF800000#32 = ⊥ := by
  simp [Ideal.ofBits, Ideal.ieee, -EReal.coe_mul]

/-- The kernel's reciprocal of the logarithm of two. -/
theorem log2e : Named.named (F := Ideal) Cert.KernelIdeal.κ "log2e" (φ := .f32) 0x3FB8AA3B#32 = (((Real.log 2)⁻¹ : ℝ) : EReal) :=
  IdealRules.named_const.ideal_named_scalar _ _ _ _ rfl
/-- The kernel's logarithm of two. -/
theorem ln2 : Named.named (F := Ideal) Cert.KernelIdeal.κ "ln2" (φ := .f32) 0x3F317218#32 = ((Real.log 2 : ℝ) : EReal) :=
  IdealRules.named_const.ideal_named_scalar _ _ _ _ rfl
/-- The kernel's tenth. -/
theorem tenth : Named.named (F := Ideal) Cert.KernelIdeal.κ "tenth" (φ := .f32) 0x3DCCCCCD#32 = ((1 / 10 : ℝ) : EReal) :=
  IdealRules.named_const.ideal_named_scalar _ _ _ _ rfl
/-- The kernel's tenth of the small left overhang. -/
theorem eps_tenth : Named.named (F := Ideal) Cert.KernelIdeal.κ "eps_tenth" (φ := .f32) 0xB3D6BF95#32
    = ((-8796093 / 87960930222080 : ℝ) : EReal) :=
  IdealRules.named_const.ideal_named_scalar _ _ _ _ rfl

end Cert.Consts

end

end
-- ==== Proof.Pre.lean ====
module

public import proofs.«01_k».proof.Pre_regular
public import proofs.«01_k».proof.Proof.Consts
public import Idealize.ShloMosaic.Lib.Pointwise
public import Idealize.ShloMosaic.Lib.ReduceAll

@[expose] public section

set_option maxRecDepth 16384

noncomputable section

/-! # What the precondition says -/

namespace Cert.Pre_regular

open Idealize.ShloMosaic
open Facts

/-- The shapes the precondition names fit one another. -/
theorem fits : Facts where
  slices_S4096x1024_S4096x512_0_0 := by decide
  bcast_S_S4096x512 := by decide
  reducesTo_S4096x512_S_d0_1 := by decide
  h_S_ := by decide
  slices_S4096x512_S1x1_0_0 := by decide
  shapeCasts_S1x1_S_ := by decide
  bcast_S_S128x11776 := by decide
  reducesTo_S128x11776_S_d0_1 := by decide
  bcast_S_S128 := by decide
  reducesTo_S128_S_d0 := by decide
  bcast_S_S11776 := by decide
  reducesTo_S11776_S_d0 := by decide

/-- A left fold by «or» from zero that came out one met a one. -/
theorem foldl_ori {ι : Type} (f : ι → BitVec 1) :
    ∀ (l : List ι) (b : BitVec 1), l.foldl (fun r n => IntOp.ori r (f n)) b = 1#1 → b = 1#1 ∨ ∃ n ∈ l, f n = 1#1
  | [], _, h => Or.inl h
  | a :: l, b, h => by
    rcases foldl_ori f l _ h with h1 | ⟨n, hn, h2⟩
    · rcases IntOp.ori_eq_one.1 h1 with h3 | h3
      · exact Or.inl h3
      · exact Or.inr ⟨a, List.mem_cons_self .., h3⟩
    · exact Or.inr ⟨n, List.mem_cons_of_mem _ hn, h2⟩

/-- A bit of a proposition is one just when the proposition holds. -/
theorem bit_one {p : Prop} [Decidable p] : BitVec.ofBool (decide p) = 1#1 ↔ p := by
  by_cases h : p <;> simp [h]

/-- A number whose magnitude is below infinity is a real. -/
theorem real_of_abs {x : EReal} (h : max x (-x) < ⊤) : x = ((x.toReal : ℝ) : EReal) := by
  refine (EReal.coe_toReal (fun e => ?_) (fun e => ?_)).symm
  · rw [e] at h; exact absurd h (by simp)
  · rw [e] at h; exact absurd h (by simp)

variable [Facts] (a0 : FVec Ideal S4096x1024 .f32) (a1 : FVec Ideal S4096x1 .f32) (a2 : IVec S4096 1) (a3 : FVec Ideal S512x128 .f32)
  (a4 : FVec Ideal S128 .f32) (a5 : FVec Ideal S128x11776 .f32) (a6 : FVec Ideal S11776 .f32)

/-- The first half of the input. -/
def half (a0 : FVec Ideal S4096x1024 .f32) : FVec Ideal S4096x512 .f32 := extractStridedSlice S4096x512 ![0, 0] a0 slices_S4096x1024_S4096x512_0_0

theorem half_at (r : Fin 4096) (q : Fin 512) : half a0 (ix2 r q) = a0 (ix2 r ⟨q.val, by omega⟩) := by
  unfold half
  pointwise

/-- The five conditions. -/
theorem parts (h : fn a0 a1 a2 a3 a4 a5 a6 = fun _ => 1#1) :
    (∀ r q, half a0 (ix2 r q) = (((half a0 (ix2 r q)).toReal : ℝ) : EReal))
    ∧ (∃ r q, half a0 (ix2 r q) ≠ half a0 (ix2 0 0))
    ∧ (∀ k j, a5 (ix2 k j) = (((a5 (ix2 k j)).toReal : ℝ) : EReal))
    ∧ (∀ k, a4 (ix1 k) = (0 : EReal)) ∧ (∀ j, a6 (ix1 j) = (0 : EReal)) := by
  have h0 := congrFun h ix0
  unfold fn fn_part1 at h0
  obtain ⟨h1, hb2⟩ := IntOp.andi_eq_one.1 h0
  obtain ⟨h2, hb1⟩ := IntOp.andi_eq_one.1 h1
  obtain ⟨h3, hw⟩ := IntOp.andi_eq_one.1 h2
  obtain ⟨hx, hne⟩ := IntOp.andi_eq_one.1 h3
  haveI : Subsingleton S_.Idx := ⟨fun a b => funext fun k => k.elim0⟩
  refine ⟨fun r q => ?_, ?_, fun k j => ?_, fun k => ?_, fun j => ?_⟩
  · have e := Host.reduce_andi_all _ _ _ _ _ hx (ix2 r q)
    change BitVec.ofBool (decide (max (half a0 (ix2 r q)) (-half a0 (ix2 r q)) < Ideal.ofBits .f32 0x7F800000#32)) = 1#1 at e
    rw [bit_one, Consts.bits_top] at e
    exact real_of_abs e
  · rcases foldl_ori _ _ _ hne with e | ⟨n, _, e⟩
    · exact absurd (show (0#1 : BitVec 1) = 1#1 from e) (by decide)
    · generalize S4096x512.rowMajor.symm n = i at e
      obtain ⟨r, q, rfl⟩ : ∃ (r : Fin 4096) (q : Fin 512), i = ix2 r q := ⟨i 0, i 1, eq_ix2 i⟩
      refine ⟨r, q, ?_⟩
      have s : (broadcastInDim S4096x512 ![] bcast_S_S4096x512 (shapeCast S_ (extractStridedSlice S1x1 ![0, 0] (half a0) slices_S4096x512_S1x1_0_0) shapeCasts_S1x1_S_)) (ix2 r q)
          = half a0 (ix2 0 0) := by pointwise
      change BitVec.ofBool (decide (half a0 (ix2 r q) ≠ (broadcastInDim S4096x512 ![] bcast_S_S4096x512 (shapeCast S_ (extractStridedSlice S1x1 ![0, 0] (half a0) slices_S4096x512_S1x1_0_0) shapeCasts_S1x1_S_)) (ix2 r q))) = 1#1 at e
      rw [bit_one, s] at e
      exact e
  · have e := Host.reduce_andi_all _ _ _ _ _ hw (ix2 k j)
    change BitVec.ofBool (decide (max (a5 (ix2 k j)) (-a5 (ix2 k j)) < Ideal.ofBits .f32 0x7F800000#32)) = 1#1 at e
    rw [bit_one, Consts.bits_top] at e
    exact real_of_abs e
  · have e := Host.reduce_andi_all _ _ _ _ _ hb1 (ix1 k)
    change BitVec.ofBool (decide (a4 (ix1 k) = Ideal.ofBits .f32 0x00000000#32)) = 1#1 at e
    rw [bit_one, Consts.bits_zero, EReal.coe_zero] at e
    exact e
  · have e := Host.reduce_andi_all _ _ _ _ _ hb2 (ix1 j)
    change BitVec.ofBool (decide (a6 (ix1 j) = Ideal.ofBits .f32 0x00000000#32)) = 1#1 at e
    rw [bit_one, Consts.bits_zero, EReal.coe_zero] at e
    exact e

end Cert.Pre_regular

end

end
-- ==== Proof.Real.lean ====
module

public import Mathlib.Tactic.Positivity
public import Mathlib.Tactic.FieldSimp
public import Mathlib.Tactic.Ring
public import Mathlib.Tactic.Linarith
public import Idealize.ShloMosaic.PureOps.Ideal

@[expose] public section

noncomputable section

/-! # The spline of one point, over the reals

A point has 23 parameters: eight for the bins' heights, eight for their widths and seven for the inner slopes. -/

namespace Cert.Spline

open Idealize.ShloMosaic

/-- The 23 parameters of one point. -/
abbrev Net := Fin 23 → ℝ

/-- A bin's height, before normalising. -/
def ht (n : Net) (k : Fin 8) : ℝ := Real.exp (n ⟨k.val, by omega⟩)
/-- A bin's width, before normalising. -/
def wd (n : Net) (k : Fin 8) : ℝ := Real.exp (n ⟨8 + k.val, by omega⟩)
/-- An inner slope. -/
def soft (n : Net) (k : Fin 7) : ℝ := Real.log (1 + Real.exp (n ⟨16 + k.val, by omega⟩))
/-- The sum of eight numbers. -/
def tot (v : Fin 8 → ℝ) : ℝ := v 0 + v 1 + v 2 + v 3 + v 4 + v 5 + v 6 + v 7
/-- The running sums of eight numbers, the empty one first. -/
def cum (v : Fin 8 → ℝ) : Fin 9 → ℝ :=
  ![0, v 0, v 0 + v 1, v 0 + v 1 + v 2, v 0 + v 1 + v 2 + v 3, v 0 + v 1 + v 2 + v 3 + v 4,
    v 0 + v 1 + v 2 + v 3 + v 4 + v 5, v 0 + v 1 + v 2 + v 3 + v 4 + v 5 + v 6, tot v]
/-- The slopes at the nine knots: one at the two ends. -/
def sl (n : Net) : Fin 9 → ℝ := ![1, soft n 0, soft n 1, soft n 2, soft n 3, soft n 4, soft n 5, soft n 6, 1]
/-- The left ends of the bins, on the scale on which the widths add up to `tot (wd n)`: the first lies a little to the
    left of zero. -/
def left (n : Net) : Fin 8 → ℝ :=
  ![(-8796093 / 87960930222080) * tot (wd n), cum (wd n) 1, cum (wd n) 2, cum (wd n) 3, cum (wd n) 4, cum (wd n) 5,
    cum (wd n) 6, cum (wd n) 7]
/-- The last of eight bins whose left end lies below `t`, the first bin where there is none. -/
def bin (t : ℝ) (c : Fin 9 → ℝ) : Fin 8 :=
  if c 7 < t then 7 else if c 6 < t then 6 else if c 5 < t then 5 else if c 4 < t then 4 else if c 3 < t then 3
  else if c 2 < t then 2 else if c 1 < t then 1 else 0

/-- The point's position, on the scale on which the widths add up to `tot (wd n)`. -/
def pos (n : Net) (c : ℝ) : ℝ := (c + 5) * (tot (wd n) * (1 / 10))
/-- The point's bin. -/
def bn (n : Net) (c : ℝ) : Fin 8 := bin (pos n c) (cum (wd n))
/-- The slope at the left end of the bin. -/
def dl (n : Net) (c : ℝ) : ℝ := sl n (bn n c).castSucc
/-- The slope at the right end of the bin. -/
def dr (n : Net) (c : ℝ) : ℝ := sl n (bn n c).succ
/-- The bin's mean slope. -/
def ms (n : Net) (c : ℝ) : ℝ := ht n (bn n c) * (1 / wd n (bn n c)) * (tot (wd n) * (1 / tot (ht n)))
/-- The point's relative position in the bin. -/
def al (n : Net) (c : ℝ) : ℝ := (pos n c - left n (bn n c)) * (1 / wd n (bn n c))
/-- The spline's denominator. -/
def den (n : Net) (c : ℝ) : ℝ :=
  ms n c + ((dr n c + dl n c) - 2 * ms n c) * (al n c * (1 - al n c))
/-- The spline's numerator. -/
def num (n : Net) (c : ℝ) : ℝ := ms n c * al n c * al n c + dl n c * (al n c * (1 - al n c))
/-- The numerator of the spline's derivative. -/
def gnum (n : Net) (c : ℝ) : ℝ :=
  ms n c * ms n c * (dr n c * al n c * al n c + 2 * ms n c * (al n c * (1 - al n c)) + dl n c * (1 - al n c) * (1 - al n c))

/-! ## Signs -/

theorem ht_pos (n : Net) (k : Fin 8) : 0 < ht n k := Real.exp_pos _
theorem wd_pos (n : Net) (k : Fin 8) : 0 < wd n k := Real.exp_pos _
theorem tot_pos {v : Fin 8 → ℝ} (h : ∀ k, 0 < v k) : 0 < tot v := by
  have h0 := h 0; have h1 := h 1; have h2 := h 2; have h3 := h 3; have h4 := h 4; have h5 := h 5; have h6 := h 6; have h7 := h 7
  unfold tot; positivity

/-! ## The selections -/

/-- A comparison's choice between two reals. -/
theorem sel_lt (a b x y : ℝ) :
    Scalar.select (FloatOps.cmpf (F := Ideal) (φ := .f32) .olt (a : EReal) (b : EReal)) (x : EReal) (y : EReal)
      = ((if a < b then x else y : ℝ) : EReal) := by
  show Scalar.select (Ideal.cmp .olt (a : EReal) (b : EReal)) (x : EReal) (y : EReal) = _
  by_cases h : a < b <;> simp [Ideal.cmp, Scalar.select, h]

/-- The value of the spline as the kernel writes it. -/
def phiV (n : Net) (c : ℝ) : EReal :=
  (((cum (ht n) (bn n c).castSucc : ℝ) : EReal) + ((ht n (bn n c) * num n c : ℝ) : EReal) * Ideal.div ((1 : ℝ) : EReal) ((den n c : ℝ) : EReal))
    * ((10 * (1 / tot (ht n)) : ℝ) : EReal) - ((5 : ℝ) : EReal)

/-- The spline's derivative as the kernel writes it. -/
def gradV (n : Net) (c : ℝ) : EReal :=
  ((gnum n c : ℝ) : EReal) * Ideal.div ((1 : ℝ) : EReal) ((den n c : ℝ) : EReal) * Ideal.div ((1 : ℝ) : EReal) ((den n c : ℝ) : EReal)

end Cert.Spline

end

end
-- ==== Proof.Net.lean ====
module

public import proofs.«01_k».proof.Proof.Real
public import Mathlib.Data.EReal.Inv

@[expose] public section

noncomputable section

/-! # The two layers that give every point its parameters, and the results at a point

The first half of the input has 4096 rows of 512 reals; it is standardised over all its entries and passed through two
layers. The first layer's weights may be infinite, for the hyperbolic tangent bounds what comes out of it. -/

namespace Cert.Spline

open Idealize.ShloMosaic

/-- A finite sum of reals is the same sum among the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A factor that is not negative distributes over a finite sum. -/
theorem mul_sum_real {ι : Type*} (s : Finset ι) (f : ι → EReal) {a : ℝ} (ha : 0 ≤ a) :
    (a : EReal) * ∑ k ∈ s, f k = ∑ k ∈ s, (a : EReal) * f k := by
  classical
  induction s using Finset.induction_on with
  | empty => simp
  | insert b s hb ih =>
    rw [Finset.sum_insert hb, Finset.sum_insert hb,
      EReal.left_distrib_of_nonneg_of_ne_top (EReal.coe_nonneg.mpr ha) (EReal.coe_ne_top a), ih]

/-- The mean of the first half. -/
def mean (xa : Fin 4096 → Fin 512 → ℝ) : ℝ := (∑ r, ∑ q, xa r q) / 2097152
/-- The variance of the first half. -/
def var (xa : Fin 4096 → Fin 512 → ℝ) : ℝ := (∑ r, ∑ q, (xa r q - mean xa) * (xa r q - mean xa)) / 2097151

/-- The variance of a half that is not constant. -/
theorem var_pos {xa : Fin 4096 → Fin 512 → ℝ} (h : ∃ r q, xa r q ≠ xa 0 0) : 0 < var xa := by
  unfold var
  refine div_pos ?_ (by norm_num)
  have nn : ∀ r q, 0 ≤ (xa r q - mean xa) * (xa r q - mean xa) := fun r q => mul_self_nonneg _
  obtain ⟨r, q, hne⟩ : ∃ r q, xa r q ≠ mean xa := by
    by_contra hc
    push Not at hc
    obtain ⟨r, q, h⟩ := h
    exact h ((hc r q).trans (hc 0 0).symm)
  refine Finset.sum_pos' (fun r _ => Finset.sum_nonneg fun q _ => nn r q) ⟨r, Finset.mem_univ r, ?_⟩
  exact Finset.sum_pos' (fun q _ => nn r q) ⟨q, Finset.mem_univ q, mul_self_pos.mpr (sub_ne_zero.mpr hne)⟩

/-- The sum of squared distances from the mean, by the sum of squares. -/
theorem var_eq (xa : Fin 4096 → Fin 512 → ℝ) :
    ((∑ r, ∑ q, xa r q * xa r q) - 2097152 * mean xa * mean xa) / 2097151 = var xa := by
  have h : ∑ r, ∑ q, xa r q = 2097152 * mean xa := by unfold mean; field_simp
  have e : ∑ r, ∑ q, (xa r q - mean xa) * (xa r q - mean xa)
      = (∑ r, ∑ q, xa r q * xa r q) - 2 * mean xa * (∑ r, ∑ q, xa r q) + 2097152 * (mean xa * mean xa) := by
    rw [Finset.mul_sum]
    simp only [Finset.mul_sum]
    have c1 : (2097152 : ℝ) * (mean xa * mean xa) = ∑ r : Fin 4096, ∑ q : Fin 512, mean xa * mean xa := by
      simp only [Finset.sum_const, Finset.card_univ, Fintype.card_fin, nsmul_eq_mul]; push_cast; ring
    rw [c1, ← Finset.sum_sub_distrib, ← Finset.sum_add_distrib]
    refine Finset.sum_congr rfl fun r _ => ?_
    rw [← Finset.sum_sub_distrib, ← Finset.sum_add_distrib]
    exact Finset.sum_congr rfl fun q _ => by ring
  unfold var
  rw [e, h]
  ring

/-- A standardised entry of the first half. -/
def stdz (xa : Fin 4096 → Fin 512 → ℝ) (r : Fin 4096) (q : Fin 512) : ℝ := (xa r q - mean xa) / Real.sqrt (var xa)

/-- The hyperbolic tangent of an extended real is a real. -/
theorem tanh_real (z : EReal) : Ideal.tanh z = ((Ideal.tanh z).toReal : EReal) := by
  induction z with
  | bot => show (-1 : EReal) = ((-1 : EReal).toReal : EReal); norm_cast
  | top => show (1 : EReal) = ((1 : EReal).toReal : EReal); norm_cast
  | coe r => rfl

/-- The hidden layer. -/
def hidden (xa : Fin 4096 → Fin 512 → ℝ) (w1 : Fin 512 → Fin 128 → EReal) (r : Fin 4096) (k : Fin 128) : ℝ :=
  (Ideal.tanh (∑ q, ((stdz xa r q : ℝ) : EReal) * w1 q k)).toReal

/-- The parameters of the point at row `r` and column `q`. -/
def net (xa : Fin 4096 → Fin 512 → ℝ) (w1 : Fin 512 → Fin 128 → EReal) (w2 : Fin 128 → Fin 11776 → ℝ) (r : Fin 4096)
    (q : Fin 512) : Net :=
  fun j => ∑ k, hidden xa w1 r k * w2 k ⟨j.val + 23 * q.val, by omega⟩

/-! ## The coordinate, clipped -/

/-- A coordinate clipped to the spline's interval. -/
def clip (X : EReal) : EReal := min ((5 : ℝ) : EReal) (max ((-5 : ℝ) : EReal) X)
/-- The same, as a real. -/
def clipR (X : EReal) : ℝ := (clip X).toReal

theorem clip_le (X : EReal) : clip X ≤ ((5 : ℝ) : EReal) := min_le_left _ _
theorem le_clip (X : EReal) : ((-5 : ℝ) : EReal) ≤ clip X :=
  le_min (EReal.coe_le_coe_iff.mpr (by norm_num)) (le_max_left _ _)
theorem clip_coe (X : EReal) : clip X = ((clipR X : ℝ) : EReal) :=
  (EReal.coe_toReal (ne_top_of_le_ne_top (EReal.coe_ne_top 5) (clip_le X))
    (ne_bot_of_le_ne_bot (EReal.coe_ne_bot (-5)) (le_clip X))).symm
theorem clipR_le (X : EReal) : clipR X ≤ 5 := EReal.coe_le_coe_iff.mp (clip_coe X ▸ clip_le X)
theorem le_clipR (X : EReal) : -5 ≤ clipR X := EReal.coe_le_coe_iff.mp (clip_coe X ▸ le_clip X)

/-- A coordinate is its own clipping just when its magnitude is at most five. -/
theorem clip_eq_iff (X : EReal) : clip X = X ↔ max X (-X) ≤ ((5 : ℝ) : EReal) := by
  have h : max X (-X) ≤ ((5 : ℝ) : EReal) ↔ X ≤ ((5 : ℝ) : EReal) ∧ ((-5 : ℝ) : EReal) ≤ X := by
    rw [max_le_iff, EReal.neg_le, EReal.coe_neg]
  rw [h]
  constructor
  · intro e
    rw [← e]
    exact ⟨clip_le X, le_clip X⟩
  · rintro ⟨h1, h2⟩
    rw [clip, max_eq_right h2, min_eq_right h1]

/-- The first result at a point of the second half. -/
def outPoint (n : Net) (X : EReal) : EReal := if clip X = X then phiV n (clipR X) else X
/-- The logarithm of the spline's derivative at a point of the second half, zero outside its interval. -/
def logPoint (n : Net) (X : EReal) : EReal := Ideal.log (if clip X = X then gradV n (clipR X) else ((1 : ℝ) : EReal))

end Cert.Spline

end

end
-- ==== Proof.KPoint.lean ====
module

public import proofs.«01_k».proof.Proof.Real
public import proofs.«01_k».proof.Proof.Consts
public import proofs.«01_k».proof.Proof.KBlock
public import Idealize.ShloMosaic.Lib.ValueIdx

@[expose] public section

set_option maxRecDepth 16384

noncomputable section

/-! # What the kernel's block computes at one point

`n` are the point's 23 parameters and `c` its clipped coordinate; the block holds the parameters times the base-two
logarithm of e. -/

namespace Cert.KernelIdeal.Spline

open Cert.KernelIdeal.Gen Cert.Spline
open Idealize.ShloMosaic Idealize.ShloMosaic.ValueIdx

variable {x : FVec Ideal S512x256 .f32} {p : Fin 23 → FVec Ideal S512x256 .f32} {i : S512x256.Idx} {n : Net} {c : ℝ}

/-- The block's parameters at the point. -/
def Holds (p : Fin 23 → FVec Ideal S512x256 .f32) (i : S512x256.Idx) (n : Net) : Prop :=
  ∀ j, p j i = ((n j * (Real.log 2)⁻¹ : ℝ) : EReal)

/-- Two to the power of a parameter times the base-two logarithm of e. -/
theorem two_pow (r : ℝ) : Ideal.exp2 ((r * (Real.log 2)⁻¹ : ℝ) : EReal) = ((Real.exp r : ℝ) : EReal) := by
  have h2 : Real.log 2 ≠ 0 := (Real.log_pos (by norm_num)).ne'
  rw [Ideal.exp2_coe, EReal.coe_eq_coe_iff]
  show (2 : ℝ) ^ (r * (Real.log 2)⁻¹) = Real.exp r
  rw [Real.rpow_def_of_pos (by norm_num)]
  congr 1
  field_simp

/-- The logarithm of one and a power of two, taken to base two and back. -/
theorem soft_eq (r : ℝ) :
    ((Real.log 2 : ℝ) : EReal) * (Ideal.log (((1 : ℝ) : EReal) + ((Real.exp r : ℝ) : EReal)) * (((Real.log 2)⁻¹ : ℝ) : EReal))
      = ((Real.log (1 + Real.exp r) : ℝ) : EReal) := by
  have h2 : Real.log 2 ≠ 0 := (Real.log_pos (by norm_num)).ne'
  have h1 : ¬(1 + Real.exp r ≤ 0) := not_le.mpr (by positivity)
  rw [← EReal.coe_add, Ideal.log_coe, if_neg h1, ← EReal.coe_mul, ← EReal.coe_mul]
  congr 1
  field_simp

/-- A quotient of one by a nonzero real. -/
theorem one_div_coe {r : ℝ} (h : r ≠ 0) : Ideal.div ((1 : ℝ) : EReal) (r : EReal) = ((1 / r : ℝ) : EReal) := by
  rw [Ideal.div_coe h, ← EReal.coe_mul, one_mul]

section heights
variable (hp : Holds p i n)
include hp

theorem ht0 : k0_pay29 (p 0) i = ((ht n 0 : ℝ) : EReal) := (congrArg Ideal.exp2 (hp 0)).trans (two_pow _)
theorem ht1 : k0_pay30 (p 1) i = ((ht n 1 : ℝ) : EReal) := (congrArg Ideal.exp2 (hp 1)).trans (two_pow _)
theorem ht2 : k0_pay31 (p 2) i = ((ht n 2 : ℝ) : EReal) := (congrArg Ideal.exp2 (hp 2)).trans (two_pow _)
theorem ht3 : k0_pay32 (p 3) i = ((ht n 3 : ℝ) : EReal) := (congrArg Ideal.exp2 (hp 3)).trans (two_pow _)
theorem ht4 : k0_pay33 (p 4) i = ((ht n 4 : ℝ) : EReal) := (congrArg Ideal.exp2 (hp 4)).trans (two_pow _)
theorem ht5 : k0_pay34 (p 5) i = ((ht n 5 : ℝ) : EReal) := (congrArg Ideal.exp2 (hp 5)).trans (two_pow _)
theorem ht6 : k0_pay35 (p 6) i = ((ht n 6 : ℝ) : EReal) := (congrArg Ideal.exp2 (hp 6)).trans (two_pow _)
theorem ht7 : k0_pay36 (p 7) i = ((ht n 7 : ℝ) : EReal) := (congrArg Ideal.exp2 (hp 7)).trans (two_pow _)
theorem wd0 : k0_pay37 (p 8) i = ((wd n 0 : ℝ) : EReal) := (congrArg Ideal.exp2 (hp 8)).trans (two_pow _)
theorem wd1 : k0_pay38 (p 9) i = ((wd n 1 : ℝ) : EReal) := (congrArg Ideal.exp2 (hp 9)).trans (two_pow _)
theorem wd2 : k0_pay39 (p 10) i = ((wd n 2 : ℝ) : EReal) := (congrArg Ideal.exp2 (hp 10)).trans (two_pow _)
theorem wd3 : k0_pay40 (p 11) i = ((wd n 3 : ℝ) : EReal) := (congrArg Ideal.exp2 (hp 11)).trans (two_pow _)
theorem wd4 : k0_pay41 (p 12) i = ((wd n 4 : ℝ) : EReal) := (congrArg Ideal.exp2 (hp 12)).trans (two_pow _)
theorem wd5 : k0_pay42 (p 13) i = ((wd n 5 : ℝ) : EReal) := (congrArg Ideal.exp2 (hp 13)).trans (two_pow _)
theorem wd6 : k0_pay43 (p 14) i = ((wd n 6 : ℝ) : EReal) := (congrArg Ideal.exp2 (hp 14)).trans (two_pow _)
theorem wd7 : k0_pay44 (p 15) i = ((wd n 7 : ℝ) : EReal) := (congrArg Ideal.exp2 (hp 15)).trans (two_pow _)

theorem totH_at : totH p i = ((tot (ht n) : ℝ) : EReal) := by
  unfold totH k0_pay45
  simp only [addf_apply, ht0 hp, ht1 hp, ht2 hp, ht3 hp, ht4 hp, ht5 hp, ht6 hp, ht7 hp, ← EReal.coe_add]
  rfl

theorem totW_at : totW p i = ((tot (wd n) : ℝ) : EReal) := by
  unfold totW k0_pay46
  simp only [addf_apply, wd0 hp, wd1 hp, wd2 hp, wd3 hp, wd4 hp, wd5 hp, wd6 hp, wd7 hp, ← EReal.coe_add]
  rfl

/-- The inner slopes. -/
theorem slope_at (k : Fin 7) : slope p k i = ((soft n k : ℝ) : EReal) := by
  have key : ∀ (j : Fin 23), (((Real.log 2 : ℝ) : EReal) * (Ideal.log (((1 : ℝ) : EReal) + Ideal.exp2 (p j i)) * (((Real.log 2)⁻¹ : ℝ) : EReal)))
      = ((Real.log (1 + Real.exp (n j)) : ℝ) : EReal) := fun j => by rw [hp j, two_pow, soft_eq]
  rw [← Consts.bits_one, ← Consts.log2e, ← Consts.ln2] at key
  match k with
  | 0 => exact key 16
  | 1 => exact key 17
  | 2 => exact key 18
  | 3 => exact key 19
  | 4 => exact key 20
  | 5 => exact key 21
  | 6 => exact key 22

end heights

section point
variable (hp : Holds p i n) (hc : k0_pay57 x i = (c : EReal))
include hp hc

theorem thr_at : k0_pay59 x (totW p) i = ((pos n c : ℝ) : EReal) := by
  unfold k0_pay59
  simp only [addf_apply, mulf_apply, broadcast_apply, hc, totW_at hp, Consts.tenth, Scalar.ofBits, Ideal.ofBits_def, Consts.bits_five,
    ← EReal.coe_add, ← EReal.coe_mul]
  rfl

/-- The height of the point's bin. -/
theorem hK_at : hK x p i = ((ht n (bn n c) : ℝ) : EReal) := by
  unfold hK h3 cw3 thr
  simp only [k0_pay81, k0_pay68, k0_pay80, k0_pay79, k0_pay78, k0_pay77, k0_pay76, k0_pay75, k0_pay74, k0_pay73, k0_pay66, k0_pay65, k0_pay64, k0_pay63, k0_pay62, k0_pay61, k0_pay60, k0_pay58,
    select_apply, cmpf_apply, addf_apply, subf_apply, mulf_apply, divf_apply, broadcast_apply, Scalar.ofBits, Ideal.ofBits_def, Consts.bits_one, Consts.bits_zero, Consts.eps_tenth,
    thr_at hp hc, totW_at hp, totH_at hp, slope_at hp, ht0 hp, ht1 hp, ht2 hp, ht3 hp, ht4 hp, ht5 hp, ht6 hp, ht7 hp,
    wd0 hp, wd1 hp, wd2 hp, wd3 hp, wd4 hp, wd5 hp, wd6 hp, wd7 hp, ← EReal.coe_add, ← EReal.coe_mul, sel_lt]
  rw [EReal.coe_eq_coe_iff]
  unfold bn bin
  simp only [apply_ite (ht n)]
  rfl

/-- The slope at the left end of the point's bin. -/
theorem dK_at : dK x p i = ((dl n c : ℝ) : EReal) := by
  unfold dK d3 cw3 thr dl
  simp only [k0_pay82, k0_pay69, k0_pay80, k0_pay79, k0_pay78, k0_pay77, k0_pay76, k0_pay75, k0_pay74, k0_pay73, k0_pay66, k0_pay65, k0_pay64, k0_pay63, k0_pay62, k0_pay61, k0_pay60, k0_pay58,
    select_apply, cmpf_apply, addf_apply, subf_apply, mulf_apply, divf_apply, broadcast_apply, Scalar.ofBits, Ideal.ofBits_def, Consts.bits_one, Consts.bits_zero, Consts.eps_tenth,
    thr_at hp hc, totW_at hp, totH_at hp, slope_at hp, ht0 hp, ht1 hp, ht2 hp, ht3 hp, ht4 hp, ht5 hp, ht6 hp, ht7 hp,
    wd0 hp, wd1 hp, wd2 hp, wd3 hp, wd4 hp, wd5 hp, wd6 hp, wd7 hp, ← EReal.coe_add, ← EReal.coe_mul, sel_lt]
  rw [EReal.coe_eq_coe_iff]
  unfold bn bin
  simp only [apply_ite (fun b : Fin 8 => sl n b.castSucc)]
  rfl

/-- The slope at the right end of the point's bin. -/
theorem eK_at : eK x p i = ((dr n c : ℝ) : EReal) := by
  unfold eK e3 cw3 thr dr
  simp only [k0_pay83, k0_pay70, k0_pay80, k0_pay79, k0_pay78, k0_pay77, k0_pay76, k0_pay75, k0_pay74, k0_pay73, k0_pay66, k0_pay65, k0_pay64, k0_pay63, k0_pay62, k0_pay61, k0_pay60, k0_pay58,
    select_apply, cmpf_apply, addf_apply, subf_apply, mulf_apply, divf_apply, broadcast_apply, Scalar.ofBits, Ideal.ofBits_def, Consts.bits_one, Consts.bits_zero, Consts.eps_tenth,
    thr_at hp hc, totW_at hp, totH_at hp, slope_at hp, ht0 hp, ht1 hp, ht2 hp, ht3 hp, ht4 hp, ht5 hp, ht6 hp, ht7 hp,
    wd0 hp, wd1 hp, wd2 hp, wd3 hp, wd4 hp, wd5 hp, wd6 hp, wd7 hp, ← EReal.coe_add, ← EReal.coe_mul, sel_lt]
  rw [EReal.coe_eq_coe_iff]
  unfold bn bin
  simp only [apply_ite (fun b : Fin 8 => sl n b.succ)]
  rfl

/-- The height reached at the left end of the point's bin. -/
theorem bK_at : bK x p i = ((cum (ht n) (bn n c).castSucc : ℝ) : EReal) := by
  unfold bK b3 cw3 thr
  simp only [k0_pay84, k0_pay72, k0_pay80, k0_pay79, k0_pay78, k0_pay77, k0_pay76, k0_pay75, k0_pay74, k0_pay73, k0_pay66, k0_pay65, k0_pay64, k0_pay63, k0_pay62, k0_pay61, k0_pay60, k0_pay58,
    select_apply, cmpf_apply, addf_apply, subf_apply, mulf_apply, divf_apply, broadcast_apply, Scalar.ofBits, Ideal.ofBits_def, Consts.bits_one, Consts.bits_zero, Consts.eps_tenth,
    thr_at hp hc, totW_at hp, totH_at hp, slope_at hp, ht0 hp, ht1 hp, ht2 hp, ht3 hp, ht4 hp, ht5 hp, ht6 hp, ht7 hp,
    wd0 hp, wd1 hp, wd2 hp, wd3 hp, wd4 hp, wd5 hp, wd6 hp, wd7 hp, ← EReal.coe_add, ← EReal.coe_mul, sel_lt]
  rw [EReal.coe_eq_coe_iff]
  unfold bn bin
  simp only [apply_ite (fun b : Fin 8 => cum (ht n) b.castSucc)]
  rfl

/-- The reciprocal of the width of the point's bin. -/
theorem recip_at : k0_pay85 (k0_pay41 (p 12)) (k0_pay42 (p 13)) (k0_pay43 (p 14)) (k0_pay44 (p 15)) (thr x p) (w3 x p) (cw3 p) i
    = ((1 / wd n (bn n c) : ℝ) : EReal) := by
  unfold k0_pay85 w3 cw3 thr
  simp only [k0_pay80, k0_pay79, k0_pay78, k0_pay77, k0_pay76, k0_pay75, k0_pay74, k0_pay73, k0_pay71, k0_pay67, k0_pay66, k0_pay64, k0_pay63, k0_pay61, k0_pay60,
    select_apply, cmpf_apply, addf_apply, mulf_apply, broadcast_apply, Consts.eps_tenth,
    thr_at hp hc, totW_at hp, wd0 hp, wd1 hp, wd2 hp, wd3 hp, wd4 hp, wd5 hp, wd6 hp, wd7 hp, ← EReal.coe_add, ← EReal.coe_mul, sel_lt, divf_apply, Scalar.ofBits, Ideal.ofBits_def, Consts.bits_one]
  refine (congrArg (fun r : ℝ => Ideal.div ((1 : ℝ) : EReal) (r : EReal)) ?_).trans (one_div_coe (wd_pos n (bn n c)).ne')
  unfold bn bin
  simp only [apply_ite (wd n)]
  rfl

/-- The bin's mean slope. -/
theorem sK_at : sK x p i = ((ms n c : ℝ) : EReal) := by
  show hK x p i * k0_pay85 (k0_pay41 (p 12)) (k0_pay42 (p 13)) (k0_pay43 (p 14)) (k0_pay44 (p 15)) (thr x p) (w3 x p) (cw3 p) i
    * (totW p i * Ideal.div (Ideal.ofBits .f32 0x3F800000#32) (totH p i)) = _
  rw [hK_at hp hc, recip_at hp hc, totW_at hp, totH_at hp, Consts.bits_one, one_div_coe (tot_pos (ht_pos n)).ne']
  simp only [← EReal.coe_mul]
  rfl

/-- The point's relative position in its bin. -/
theorem aK_at : aK x p i = ((al n c : ℝ) : EReal) := by
  unfold aK
  simp only [k0_pay89, mulf_apply, recip_at hp hc, subf_apply]
  unfold l3 cw3 thr
  simp only [k0_pay80, k0_pay79, k0_pay78, k0_pay77, k0_pay76, k0_pay75, k0_pay74, k0_pay73, k0_pay71, k0_pay67, k0_pay66, k0_pay64, k0_pay63, k0_pay61, k0_pay60,
    select_apply, cmpf_apply, addf_apply, mulf_apply, broadcast_apply, Consts.eps_tenth,
    thr_at hp hc, totW_at hp, wd0 hp, wd1 hp, wd2 hp, wd3 hp, wd4 hp, wd5 hp, wd6 hp, wd7 hp, ← EReal.coe_add, ← EReal.coe_mul, sel_lt, ← EReal.coe_sub]
  rw [EReal.coe_eq_coe_iff]
  unfold al
  congr 2
  unfold bn bin
  simp only [apply_ite (left n)]
  rfl

/-- One less the relative position. -/
theorem omK_at : omK x p i = ((1 - al n c : ℝ) : EReal) := by
  show Ideal.ofBits .f32 0x3F800000#32 - aK x p i = _
  rw [aK_at hp hc, Consts.bits_one, ← EReal.coe_sub]

/-- The product of the two. -/
theorem aomK_at : aomK x p i = ((al n c * (1 - al n c) : ℝ) : EReal) := by
  show aK x p i * omK x p i = _
  rw [aK_at hp hc, omK_at hp hc, ← EReal.coe_mul]

/-- The denominator. -/
theorem denK_at : denK x p i = ((den n c : ℝ) : EReal) := by
  show sK x p i + ((eK x p i + dK x p i) - Ideal.ofBits .f32 0x40000000#32 * sK x p i) * aomK x p i = _
  rw [sK_at hp hc, eK_at hp hc, dK_at hp hc, aomK_at hp hc, Consts.bits_two]
  simp only [← EReal.coe_mul, ← EReal.coe_add, ← EReal.coe_sub]
  rfl

/-- The value of the spline before the choice between it and the coordinate itself. -/
theorem value_at : (bK x p i + hK x p i * (sK x p i * aK x p i * aK x p i + dK x p i * aomK x p i)
      * Ideal.div (Ideal.ofBits .f32 0x3F800000#32) (denK x p i))
    * (Ideal.ofBits .f32 0x41200000#32 * Ideal.div (Ideal.ofBits .f32 0x3F800000#32) (totH p i)) - Ideal.ofBits .f32 0x40A00000#32
    = phiV n c := by
  rw [sK_at hp hc, hK_at hp hc, dK_at hp hc, bK_at hp hc, aK_at hp hc, aomK_at hp hc, denK_at hp hc, totH_at hp, Consts.bits_one,
    Consts.bits_ten, Consts.bits_five, one_div_coe (tot_pos (ht_pos n)).ne']
  simp only [← EReal.coe_mul, ← EReal.coe_add]
  rfl

/-- The spline's derivative before the choice between it and one. -/
theorem grad_at : sK x p i * sK x p i * (eK x p i * aK x p i * aK x p i + Ideal.ofBits .f32 0x40000000#32 * sK x p i * aomK x p i
      + dK x p i * omK x p i * omK x p i) * Ideal.div (Ideal.ofBits .f32 0x3F800000#32) (denK x p i)
    * Ideal.div (Ideal.ofBits .f32 0x3F800000#32) (denK x p i) = gradV n c := by
  rw [sK_at hp hc, eK_at hp hc, dK_at hp hc, aK_at hp hc, omK_at hp hc, aomK_at hp hc, denK_at hp hc, Consts.bits_one,
    Consts.bits_two]
  simp only [← EReal.coe_mul, ← EReal.coe_add]
  rfl

end point

end Cert.KernelIdeal.Spline

end

end
-- ==== Proof.KArray.lean ====
module

public import proofs.«01_k».proof.Proof.KLaunch

@[expose] public section

set_option maxRecDepth 16384

noncomputable section

namespace Cert.KernelIdeal.Spline

open Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat)

variable {F : FTy → Type} [FloatOps F] [Named F]

variable (m : (ℓ : Loc nD τ sig) → Buf (Elt F) ℓ) (ρ : Dev nD → PrngReg)

/-- The block of 256 rows that row `r` lies in. -/
def blockOf (r : Fin 4096) : Fin 16 := ⟨r.val / 256, by omega⟩

/-- Its place in that block. -/
def inBlock (r : Fin 4096) : Fin 256 := ⟨r.val % 256, by omega⟩

/-- The first result: each block of 256 rows is what the kernel computes from it. -/
def resX (X : Vec F S4096x1024 .f32) (W1 : Vec F S512x128 .f32) (W2 : Vec F S128x11776 .f32) : Vec F S4096x1024 .f32 :=
  fun i => outX (rowsAt X (blockOf (i 0))) W1 (k0_pay3 W2) (stats (firstHalf X)) (ValueIdx.ix2 (inBlock (i 0)) (i 1))

/-- The second result, likewise. -/
def resLd (X : Vec F S4096x1024 .f32) (L : Vec F S4096x1 .f32) (W1 : Vec F S512x128 .f32) (W2 : Vec F S128x11776 .f32) : Vec F S4096x1 .f32 :=
  fun i => outLd (rowsAt X (blockOf (i 0))) (rowsAt L (blockOf (i 0))) W1 (k0_pay3 W2) (stats (firstHalf X)) (ValueIdx.ix2 (inBlock (i 0)) (i 1))

/-- A row of block `t` lies in block `t`, at its own place. -/
theorem block_row (t : Fin cfg0.N) (a : ℕ) (ha : a < 256) (r : Fin 4096) (h : r.val = t.val * 256 + a) :
    blockOf r = pt t ∧ inBlock r = ⟨a, ha⟩ :=
  ⟨Fin.ext (by show r.val / 256 = t.val; omega), Fin.ext (by show r.val % 256 = a; omega)⟩

/-- After the run the first result's array is `resX`. -/
theorem arr5 (c : Dev nD) : (dats m 0 c).arrAt 5 (cfgs 0).N
    = resX (m ((c : Thread nD τ).loc main_arg0)) (m ((c : Thread nD τ).loc main_arg3)) (m ((c : Thread nD τ).loc main_arg5)) := by
  refine (dats m 0 c).arrAt_eq_of_covers 5 _ (by decide +kernel) fun t hf y => ?_
  rw [after_5, iblk1, iblk3]
  have e0 : (((((cfg0.win 5).blk t).view.emb y) 0 : Fin 4096) : ℕ) = t.val * 256 + (y 0).val := by blk_simp [idx t]
  have e1 : (((((cfg0.win 5).blk t).view.emb y) 1 : Fin 1024) : ℕ) = (y 1).val := by blk_simp [idx t]
  have hy0 : (y 0).val < 256 := (y 0).isLt
  obtain ⟨hb, hi⟩ := block_row t (y 0).val hy0 _ e0
  unfold resX keptW keptS
  rw [hb, hi]
  show outX _ _ _ _ _ = outX _ _ _ _ _
  exact congrArg (outX _ _ _ _) (funext fun a : Fin 2 => match a with
    | ⟨0, _⟩ => rfl
    | ⟨1, _⟩ => Fin.ext e1.symm)

/-- After the run the second result's array is `resLd`. -/
theorem arr6 (c : Dev nD) : (dats m 0 c).arrAt 6 (cfgs 0).N
    = resLd (m ((c : Thread nD τ).loc main_arg0)) (m ((c : Thread nD τ).loc main_arg1)) (m ((c : Thread nD τ).loc main_arg3)) (m ((c : Thread nD τ).loc main_arg5)) := by
  refine (dats m 0 c).arrAt_eq_of_covers 6 _ (by decide +kernel) fun t hf y => ?_
  rw [after_6, iblk1, iblk2, iblk3]
  have e0 : (((((cfg0.win 6).blk t).view.emb y) 0 : Fin 4096) : ℕ) = t.val * 256 + (y 0).val := by blk_simp [idx t]
  have e1 : (((((cfg0.win 6).blk t).view.emb y) 1 : Fin 1) : ℕ) = (y 1).val := by blk_simp [idx t]
  have hy0 : (y 0).val < 256 := (y 0).isLt
  obtain ⟨hb, hi⟩ := block_row t (y 0).val hy0 _ e0
  unfold resLd keptW keptS
  rw [hb, hi]
  show outLd _ _ _ _ _ _ = outLd _ _ _ _ _ _
  exact congrArg (outLd _ _ _ _ _) (funext fun a : Fin 2 => match a with
    | ⟨0, _⟩ => rfl
    | ⟨1, _⟩ => Fin.ext e1.symm)

/-- Every run ends with the two results at `resX` and `resLd` of the arguments, and the arguments as they were. -/
theorem run_ends : θ_run defs (onTc (τ := τ) (main (F := F))) ⟨m, fun _ => 0, ρ⟩ (fun r => (∀ c : Dev nD,
      r.2.mem ((c.tc : Thread nD τ).loc main_v0_0)
        = resX (m ((c : Thread nD τ).loc main_arg0)) (m ((c : Thread nD τ).loc main_arg3)) (m ((c : Thread nD τ).loc main_arg5))
      ∧ r.2.mem ((c.tc : Thread nD τ).loc main_v0_1)
        = resLd (m ((c : Thread nD τ).loc main_arg0)) (m ((c : Thread nD τ).loc main_arg1)) (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c => ⟨((h.1.1 c).1 5).trans (arr5 m c), ((h.1.1 c).1 6).trans (arr6 m c), h.2.1 c⟩)
    (θ_run_and (run_quiescent m ρ) (frame_all m ρ))

end Cert.KernelIdeal.Spline

end
-- ==== Proof.KNet.lean ====
module

public import proofs.«01_k».proof.Proof.Net
public import proofs.«01_k».proof.Proof.KPoint
public import proofs.«01_k».proof.Proof.KArray
public import Idealize.ShloMosaic.Lib.Pointwise

@[expose] public section

set_option maxRecDepth 16384

noncomputable section

/-! # The kernel's two results at an index -/

namespace Cert.KernelIdeal.Spline

open Cert.KernelIdeal.Gen Cert.Spline
open Idealize.ShloMosaic

/-! ## What the blocks' operations are at an index -/

/-- The mean, as the kernel takes it. -/
theorem pay1_at (x : Vec Ideal S4096x512 .f32) :
    k0_pay1 x = Ideal.div (∑ r : Fin 4096, ∑ q : Fin 512, x (ix2 r q)) (Ideal.ofBits .f32 0x4A000000#32) := by
  pointwise [k0_pay1]

/-- The reciprocal of the standard deviation, as the kernel takes it. -/
theorem pay2_at (x : Vec Ideal S4096x512 .f32) :
    k0_pay2 x = Ideal.rsqrt (Ideal.div ((∑ r : Fin 4096, ∑ q : Fin 512, x (ix2 r q) * x (ix2 r q))
      - Ideal.ofBits .f32 0x4A000000#32 * k0_pay1 x * k0_pay1 x) (Ideal.ofBits .f32 0x49FFFFF8#32)) := by
  pointwise [k0_pay2]
  rfl

/-- The transposed weight. -/
theorem pay3_at (x : Vec Ideal S128x11776 .f32) (a : Fin 11776) (b : Fin 128) : k0_pay3 x (ix2 a b) = x (ix2 b a) := by
  pointwise [k0_pay3]

/-- The hidden layer of a block. -/
theorem hid_at (lo : Vec Ideal S256x512 .f32) (w1 : Vec Ideal S512x128 .f32) (st : Vec Ideal S2 .f32) (k : Fin 128) (r : Fin 256) :
    hid lo w1 st (ix2 k r) = Ideal.tanh (∑ q : Fin 512, (lo (ix2 r q) - st (ValueIdx.ix1 0)) * st (ValueIdx.ix1 1) * w1 (ix2 q k))
      * Named.named Cert.KernelIdeal.κ "log2e" (φ := .f32) 0x3FB8AA3B#32 := by
  pointwise [hid, k0_pay4]

/-- A parameter of a block. -/
theorem par_at (rows : Fin 23 → Vec Ideal S512x128 .f32) (h : FVec Ideal S128x256 .f32) (j : Fin 23) (q : Fin 512) (r : Fin 256) :
    par rows h j (ix2 q r) = ∑ k : Fin 128, rows j (ix2 q k) * h (ix2 k r) := by
  pointwise [par]

/-- The clipped coordinate. -/
theorem clip_at (x : FVec Ideal S512x256 .f32) (i : S512x256.Idx) : k0_pay57 x i = clip (x i) := by
  unfold clip
  rw [← Consts.bits_five, ← Consts.bits_neg_five]
  rfl

/-- The second half of the block's rows, at an index. -/
theorem phi_at (x : FVec Ideal S512x256 .f32) (p : Fin 23 → FVec Ideal S512x256 .f32) (r : Fin 256) (q : Fin 512) {n : Net}
    (hp : Holds p (ix2 q r) n) : phi x p (ix2 r q) = outPoint n (x (ix2 q r)) := by
  have hc : k0_pay57 x (ix2 q r) = ((clipR (x (ix2 q r)) : ℝ) : EReal) := (clip_at x _).trans (clip_coe _)
  have hval := value_at hp hc
  unfold phi outPoint
  rw [← hval, Consts.bits_one, EReal.coe_one]
  pointwise [k0_pay95, k0_pay93, k0_pay94, k0_pay87, k0_pay86, clip_at]

/-- The block's log density, at an index. -/
theorem ld_at (x : FVec Ideal S512x256 .f32) (p : Fin 23 → FVec Ideal S512x256 .f32) (x2 : Vec Ideal S256x1 .f32) (r : Fin 256)
    {n : Fin 512 → Net} (hp : ∀ q, Holds p (ix2 q r) (n q)) :
    ldOf x p x2 (ix2 r 0) = x2 (ix2 r 0) - ∑ q : Fin 512, logPoint (n q) (x (ix2 q r)) := by
  have hl : Real.log 2 ≠ 0 := (Real.log_pos (by norm_num)).ne'
  have e : ∀ l : EReal, ((Real.log 2 : ℝ) : EReal) * (l * (((Real.log 2)⁻¹ : ℝ) : EReal)) = l := fun l => by
    rw [mul_comm l, ← mul_assoc, ← EReal.coe_mul, mul_inv_cancel₀ hl, EReal.coe_one, one_mul]
  have hs : ∑ q : Fin 512, logPoint (n q) (x (ix2 q r))
      = ((Real.log 2 : ℝ) : EReal) * ∑ q : Fin 512, logPoint (n q) (x (ix2 q r)) * (((Real.log 2)⁻¹ : ℝ) : EReal) := by
    rw [mul_sum_real _ _ (Real.log_pos (by norm_num)).le]
    exact Finset.sum_congr rfl fun q _ => (e _).symm
  rw [hs, ← Consts.ln2, ← Consts.log2e]
  have hq : ∀ q, logPoint (n q) (x (ix2 q r)) = Ideal.log (if clip (x (ix2 q r)) = x (ix2 q r) then
      sK x p (ix2 q r) * sK x p (ix2 q r) * (eK x p (ix2 q r) * aK x p (ix2 q r) * aK x p (ix2 q r)
        + Ideal.ofBits .f32 0x40000000#32 * sK x p (ix2 q r) * aomK x p (ix2 q r) + dK x p (ix2 q r) * omK x p (ix2 q r) * omK x p (ix2 q r))
      * Ideal.div (Ideal.ofBits .f32 0x3F800000#32) (denK x p (ix2 q r)) * Ideal.div (Ideal.ofBits .f32 0x3F800000#32) (denK x p (ix2 q r))
      else ((1 : ℝ) : EReal)) := fun q => by
    have hc : k0_pay57 x (ix2 q r) = ((clipR (x (ix2 q r)) : ℝ) : EReal) := (clip_at x _).trans (clip_coe _)
    rw [grad_at (hp q) hc]
    rfl
  simp only [hq]
  unfold ldOf
  rw [Consts.bits_one, EReal.coe_one]
  pointwise [k0_pay96, k0_pay93, k0_pay94, clip_at]

/-! ## The two layers -/

variable {X : Vec Ideal S4096x1024 .f32} {W1 : Vec Ideal S512x128 .f32} {W2 : Vec Ideal S128x11776 .f32}
  {xa : Fin 4096 → Fin 512 → ℝ} {w2 : Fin 128 → Fin 11776 → ℝ}

/-- The first half's entries, as reals. -/
def FirstHalf (X : Vec Ideal S4096x1024 .f32) (xa : Fin 4096 → Fin 512 → ℝ) : Prop :=
  ∀ (r : Fin 4096) (q : Fin 512), X (ix2 r ⟨q.val, by omega⟩) = ((xa r q : ℝ) : EReal)

/-- The second layer's weights, as reals. -/
def Weights (W2 : Vec Ideal S128x11776 .f32) (w2 : Fin 128 → Fin 11776 → ℝ) : Prop :=
  ∀ (k : Fin 128) (j : Fin 11776), W2 (ix2 k j) = ((w2 k j : ℝ) : EReal)

theorem firstHalf_at (hX : FirstHalf X xa) (r : Fin 4096) (q : Fin 512) : firstHalf X (ix2 r q) = ((xa r q : ℝ) : EReal) :=
  (congrArg X (ix2_eq_valueIdx _ _).symm).trans (hX r q)

theorem mean_at (hX : FirstHalf X xa) : k0_pay1 (firstHalf X) = ((mean xa : ℝ) : EReal) := by
  rw [pay1_at]
  simp only [firstHalf_at hX, coe_sum]
  rw [Consts.bits_count, Ideal.div_coe (by norm_num), ← EReal.coe_mul]
  congr 1
  unfold mean
  ring

theorem rstd_at (hX : FirstHalf X xa) (hv : 0 < var xa) : k0_pay2 (firstHalf X) = (((Real.sqrt (var xa))⁻¹ : ℝ) : EReal) := by
  rw [pay2_at, mean_at hX]
  simp only [firstHalf_at hX, ← EReal.coe_mul, coe_sum]
  rw [Consts.bits_count, Consts.bits_count_pred, Ideal.div_coe (by norm_num), ← EReal.coe_mul, ← EReal.coe_mul, ← EReal.coe_sub, ← EReal.coe_mul,
    mul_one_div, var_eq, Ideal.rsqrt_coe, if_neg (not_lt.mpr hv.le), if_neg hv.ne']

/-- A row of the input, found in its block. -/
theorem rows_at {w : ℕ} (Y : Vec Ideal ⟨2, ![4096, w]⟩ .f32) (r : Fin 4096) (j : Fin w) :
    rowsAt Y (blockOf r) (ix2 (inBlock r) j) = Y (ix2 r j) := by
  show Y (ValueIdx.ix2 (n0 := 4096) (n1 := w) ⟨256 * (blockOf r).val + (inBlock r).val, _⟩ j) = _
  rw [← ix2_eq_valueIdx]
  refine congrArg Y (congrArg₂ ix2 (Fin.ext ?_) rfl)
  show 256 * (r.val / 256) + r.val % 256 = r.val
  omega

/-- The block's parameters are those of the two layers. -/
theorem holds (hX : FirstHalf X xa) (hW : Weights W2 w2) (hv : 0 < var xa) (r : Fin 4096) (q : Fin 512) :
    Holds (par (everyRow (k0_pay3 W2)) (hid (loHalf (rowsAt X (blockOf r))) W1 (stats (firstHalf X)))) (ix2 q (inBlock r))
      (net xa (fun q k => W1 (ix2 q k)) w2 r q) := by
  intro j
  have hh : ∀ k, hid (loHalf (rowsAt X (blockOf r))) W1 (stats (firstHalf X)) (ix2 k (inBlock r))
      = ((Cert.Spline.hidden xa (fun q k => W1 (ix2 q k)) r k * (Real.log 2)⁻¹ : ℝ) : EReal) := fun k => by
    rw [hid_at, Consts.log2e, EReal.coe_mul]
    congr 1
    unfold Cert.Spline.hidden
    rw [← tanh_real]
    refine congrArg Ideal.tanh (Finset.sum_congr rfl fun q _ => congrArg (· * W1 (ix2 q k)) ?_)
    have h1 : loHalf (rowsAt X (blockOf r)) (ix2 (inBlock r) q) = ((xa r q : ℝ) : EReal) :=
      (congrArg _ (ix2_eq_valueIdx _ _).symm).trans ((rows_at X r _).trans (hX r q))
    have h2 : stats (firstHalf X) (ValueIdx.ix1 0) = ((mean xa : ℝ) : EReal) := (if_pos rfl).trans (mean_at hX)
    have h3 : stats (firstHalf X) (ValueIdx.ix1 1) = (((Real.sqrt (var xa))⁻¹ : ℝ) : EReal) :=
      (if_neg (by decide)).trans (rstd_at hX hv)
    rw [h1, h2, h3, ← EReal.coe_sub, ← EReal.coe_mul]
    rfl
  rw [par_at]
  have hw : ∀ k, everyRow (k0_pay3 W2) j (ix2 q k) = ((w2 k ⟨j.val + 23 * q.val, by omega⟩ : ℝ) : EReal) := fun k =>
    (congrArg _ (ix2_eq_valueIdx _ _).symm).trans ((pay3_at W2 _ k).trans (hW k _))
  simp only [hw, hh, ← EReal.coe_mul, coe_sum]
  congr 1
  unfold net
  rw [Finset.sum_mul]
  exact Finset.sum_congr rfl fun k _ => by ring

/-! ## The results -/

/-- The first half of the first result is the input's. -/
theorem resX_lo (r : Fin 4096) (j : Fin 1024) (h : j.val < 512) : resX X W1 W2 (ix2 r j) = X (ix2 r j) := by
  refine (if_pos h).trans ?_
  show rowsAt X (blockOf r) (ValueIdx.ix2 (n0 := 256) (n1 := 1024) (inBlock r) j) = _
  rw [← ix2_eq_valueIdx]
  exact rows_at X r j

/-- The second half of a block of rows, transposed. -/
theorem second_at (r : Fin 4096) (q : Fin 512) :
    k0_pay5 (hiHalf (rowsAt X (blockOf r))) (ix2 q (inBlock r)) = X (ix2 r ⟨512 + q.val, by omega⟩) := by
  refine Eq.trans ?_ (rows_at X r ⟨512 + q.val, by omega⟩)
  pointwise [k0_pay5]
  show rowsAt X (blockOf r) (ValueIdx.ix2 (n0 := 256) (n1 := 1024) (inBlock r) ⟨512 + q.val, _⟩) = _
  rw [← ix2_eq_valueIdx]

/-- The second half of the first result. -/
theorem resX_hi (hX : FirstHalf X xa) (hW : Weights W2 w2) (hv : 0 < var xa) (r : Fin 4096) (q : Fin 512) :
    resX X W1 W2 (ix2 r ⟨512 + q.val, by omega⟩)
      = outPoint (net xa (fun q k => W1 (ix2 q k)) w2 r q) (X (ix2 r ⟨512 + q.val, by omega⟩)) := by
  refine (if_neg (by show ¬(512 + q.val < 512); omega)).trans ?_
  show phi (k0_pay5 (hiHalf (rowsAt X (blockOf r)))) (par (everyRow (k0_pay3 W2)) (hid (loHalf (rowsAt X (blockOf r))) W1 (stats (firstHalf X))))
    (ValueIdx.ix2 (n0 := 256) (n1 := 512) (inBlock r) _) = _
  rw [← ix2_eq_valueIdx]
  refine Eq.trans (congrArg _ (congrArg₂ ix2 rfl (Fin.ext ?_))) ((phi_at _ _ (inBlock r) q (holds hX hW hv r q)).trans ?_)
  · show 512 + q.val - 512 = q.val
    omega
  · rw [second_at]

/-- The second result. -/
theorem resLd_at {L : Vec Ideal S4096x1 .f32} (hX : FirstHalf X xa) (hW : Weights W2 w2) (hv : 0 < var xa) (r : Fin 4096) :
    resLd X L W1 W2 (ix2 r 0)
      = L (ix2 r 0) - ∑ q : Fin 512, logPoint (net xa (fun q k => W1 (ix2 q k)) w2 r q) (X (ix2 r ⟨512 + q.val, by omega⟩)) := by
  show ldOf (k0_pay5 (hiHalf (rowsAt X (blockOf r)))) (par (everyRow (k0_pay3 W2)) (hid (loHalf (rowsAt X (blockOf r))) W1 (stats (firstHalf X))))
    (rowsAt L (blockOf r)) (ValueIdx.ix2 (n0 := 256) (n1 := 1) (inBlock r) 0) = _
  rw [← ix2_eq_valueIdx]
  refine (ld_at _ _ _ (inBlock r) (fun q => holds hX hW hv r q)).trans ?_
  simp only [second_at]
  rw [rows_at L r 0]

end Cert.KernelIdeal.Spline

end

end
-- ==== Proof.RNet.lean ====
module

public import proofs.«01_k».proof.Proof.Gen.ReferenceIdeal.Run
public import proofs.«01_k».proof.Proof.Net
public import proofs.«01_k».proof.Proof.Consts
public import Idealize.ShloMosaic.Lib.Pointwise

@[expose] public section

set_option maxRecDepth 16384

noncomputable section

/-! # The reference's two layers at an index -/

namespace Cert.ReferenceIdeal.Net

open Cert.ReferenceIdeal Cert.ReferenceIdeal.Gen Cert.ReferenceIdeal.Value Cert.Spline
open Idealize.ShloMosaic

/-- What the two layers are proved from: the first half's entries and the second weights are reals, the first half is
    not constant, and the biases are zero. -/
structure Regular (V : Valuation τ sig (Elt Ideal)) (xa : Fin 4096 → Fin 512 → ℝ) (w2 : Fin 128 → Fin 11776 → ℝ) : Prop where
  first : ∀ (r : Fin 4096) (q : Fin 512), (V (Proc.devRef .tc main_arg0) : Vec Ideal S4096x1024 .f32) (ix2 r ⟨q.val, by omega⟩) = ((xa r q : ℝ) : EReal)
  weights : ∀ (k : Fin 128) (j : Fin 11776), (V (Proc.devRef .tc main_arg5) : Vec Ideal S128x11776 .f32) (ix2 k j) = ((w2 k j : ℝ) : EReal)
  spread : 0 < var xa
  bias1 : ∀ k : Fin 128, (V (Proc.devRef .tc main_arg4) : Vec Ideal S128 .f32) (ix1 k) = (0 : EReal)
  bias2 : ∀ j : Fin 11776, (V (Proc.devRef .tc main_arg6) : Vec Ideal S11776 .f32) (ix1 j) = (0 : EReal)

variable {V : Valuation τ sig (Elt Ideal)} {xa : Fin 4096 → Fin 512 → ℝ} {w2 : Fin 128 → Fin 11776 → ℝ}

/-- The first layer's weights. -/
def firstWeights (V : Valuation τ sig (Elt Ideal)) : Fin 512 → Fin 128 → EReal :=
  fun q k => (V (Proc.devRef .tc main_arg3) : Vec Ideal S512x128 .f32) (ix2 q k)

theorem v0_at (h : Regular V xa w2) (r : Fin 4096) (q : Fin 512) : res_main_v0 V (ix2 r q) = ((xa r q : ℝ) : EReal) := by
  unfold res_main_v0
  pointwise
  exact h.first r q

/-- The mean of the first half. -/
theorem mean_at (h : Regular V xa w2) :
    Ideal.div (∑ k0 : Fin 4096, ∑ k1 : Fin 512, res_main_v0 V (ix2 k0 k1)) (Ideal.ofBits FTy.f32 0x4A000000#32) = ((mean xa : ℝ) : EReal) := by
  simp only [v0_at h, coe_sum]
  rw [Consts.bits_count, Ideal.div_coe (by norm_num), ← EReal.coe_mul, mul_one_div]
  rfl

theorem centred_at (h : Regular V xa w2) (r : Fin 4096) (q : Fin 512) :
    res_main_call0_call0_v5 V (ix2 r q) = ((xa r q - mean xa : ℝ) : EReal) := by
  unfold res_main_call0_call0_v5
  pointwise
  rw [mean_at h, v0_at h, ← EReal.coe_sub]

theorem count_at : res_main_call0_call0_v8 V ix0 = ((2097151 : ℝ) : EReal) := by
  unfold res_main_call0_call0_v8
  pointwise
  rw [Consts.bits_count, show (FloatOps.sitofp (F := Ideal) FTy.f32 1#32) = ((((1#32 : BitVec 32).toInt : ℤ) : ℝ) : EReal) from rfl, ← EReal.coe_sub]
  congr 1
  rw [show (1#32 : BitVec 32).toInt = 1 from by decide]
  norm_num

/-- The parameters at a point are those of the two layers. -/
theorem v18_at (h : Regular V xa w2) (r : Fin 4096) (q : Fin 512) (j : Fin 23) :
    res_main_v18 V (ix3 r q j) = ((net xa (firstWeights V) w2 r q j : ℝ) : EReal) := by
  unfold res_main_v18
  pointwise
  rw [mean_at h, count_at, if_pos (by exact EReal.coe_pos.mpr (by norm_num))]
  simp only [h.bias1, h.bias2, add_zero, h.weights, v0_at h, centred_at h, ← EReal.coe_mul, ← EReal.coe_sub, coe_sum]
  rw [Ideal.div_coe (by norm_num), ← EReal.coe_mul, mul_one_div,
    show (∑ r, ∑ q, (xa r q - mean xa) * (xa r q - mean xa)) / 2097151 = var xa from rfl,
    Ideal.sqrt_coe, if_neg (not_lt.mpr h.spread.le)]
  have hs : Real.sqrt (var xa) ≠ 0 := (Real.sqrt_pos.mpr h.spread).ne'
  simp only [Ideal.div_coe hs, ← EReal.coe_mul, mul_one_div]
  unfold net
  refine Eq.trans (Finset.sum_congr (M := EReal) rfl fun k _ => ?_) (coe_sum _ _)
  rw [EReal.coe_mul]
  refine congrArg₂ (· * ·) ?_ ?_
  · unfold Cert.Spline.hidden
    rw [← tanh_real]
    rfl
  · congr 2
    refine Fin.ext ?_
    show q.val * 23 + j.val = j.val + 23 * q.val
    omega

end Cert.ReferenceIdeal.Net

end

end
-- ==== Proof.Read.lean ====
module

public import proofs.«01_k».proof.Proof.Gen.ReferenceIdeal
public import proofs.«01_k».proof.Proof.Consts
public import proofs.«01_k».proof.Proof.Real
public import Idealize.ShloMosaic.Lib.Pointwise

@[expose] public section

set_option maxRecDepth 16384

noncomputable section

/-! # The reference's indexed reads, running sum and count, at an index -/

namespace Cert.ReferenceIdeal.Read

open Cert.ReferenceIdeal Cert.ReferenceIdeal.Gen Cert.Spline
open Idealize.ShloMosaic

/-! ## The running sum -/

/-- Folding additions from a start adds the sum of the summands to it. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The running sum along the last axis, over reals. -/
theorem cumsum_at (x : FVec Ideal S4096x512x8 .f32) (r : Fin 4096) (q : Fin 512) (v : Fin 8 → ℝ)
    (hx : ∀ j, x (ix3 r q j) = ((v j : ℝ) : EReal)) (j : Fin 8) :
    Host.reduceWindowAdd ![1, 1, 8] ![1, 1, 1] ![0, 0, 7] ![0, 0, 0] x (broadcastInDim S_ ![] bcast_S_S_ (constant S_ .f32 0x00000000#32))
      reduceWindows_S4096x512x8_S4096x512x8_w1s1p0_0_w1s1p0_0_w8s1p7_0 h_S_ (ix3 r q j) = ((cum v j.succ : ℝ) : EReal) := by
  have hz : (broadcastInDim S_ ![] bcast_S_S_ (constant (F := Ideal) S_ .f32 0x00000000#32)) (Shape.Idx.first h_S_) = (0 : EReal) :=
    Consts.bits_zero.trans EReal.coe_zero
  show Ideal.hostReduceWindowAdd ![1, 1, 8] ![1, 1, 1] ![0, 0, 7] ![0, 0, 0] reduceWindows_S4096x512x8_S4096x512x8_w1s1p0_0_w1s1p0_0_w8s1p7_0 x
    ((broadcastInDim S_ ![] bcast_S_S_ (constant (F := Ideal) S_ .f32 0x00000000#32)) (Shape.Idx.first h_S_)) (ix3 r q j) = _
  rw [hz]
  unfold Ideal.hostReduceWindowAdd Host.reduceWindow
  refine (foldl_add _ _ _).trans ?_
  rw [zero_add, ← Fin.sum_univ_def]
  refine (Finset.sum_congr rfl fun n _ => ?_).trans ((Equiv.sum_comp (⟨3, ![1, 1, 8]⟩ : Shape).rowMajor.symm
    (fun w : (⟨3, ![1, 1, 8]⟩ : Shape).Idx =>
      (((if 7 ≤ j.val + (w 2).val then v ⟨(j.val + (w 2).val - 7) % 8, by omega⟩ else 0 : ℝ)) : EReal))).trans ?_)
  · obtain ⟨w0, q0⟩ : ∃ w0 : Fin 1, w0.val = ((⟨3, ![1, 1, 8]⟩ : Shape).rowMajor.symm n 0).val := ⟨_, rfl⟩
    obtain ⟨w1, q1⟩ : ∃ w1 : Fin 1, w1.val = ((⟨3, ![1, 1, 8]⟩ : Shape).rowMajor.symm n 1).val := ⟨_, rfl⟩
    obtain ⟨k, q2⟩ : ∃ k : Fin 8, k = (⟨3, ![1, 1, 8]⟩ : Shape).rowMajor.symm n 2 := ⟨_, rfl⟩
    have hj := j.isLt
    have hk := k.isLt
    have e0 := w0.isLt
    have e1 := w1.isLt
    refine Eq.trans ?_ (congrArg (fun k : Fin 8 => (((if 7 ≤ j.val + k.val then v ⟨(j.val + k.val - 7) % 8, by omega⟩ else 0 : ℝ)) : EReal)) q2)
    replace q2 : k.val = ((⟨3, ![1, 1, 8]⟩ : Shape).rowMajor.symm n 2).val := congrArg Fin.val q2
    show _ = (((if 7 ≤ j.val + k.val then v ⟨(j.val + k.val - 7) % 8, by omega⟩ else 0 : ℝ)) : EReal)
    split
    · next hin =>
      have h2 := (hin 2).1
      change 7 ≤ j.val * 1 + ((⟨3, ![1, 1, 8]⟩ : Shape).rowMajor.symm n 2).val at h2
      rw [← q2] at h2
      rw [if_pos (by omega)]
      refine (congrArg x (funext fun a => Fin.ext ?_)).trans (hx _)
      match a with
      | ⟨0, _⟩ =>
        show r.val * 1 + ((⟨3, ![1, 1, 8]⟩ : Shape).rowMajor.symm n 0).val - 0 = r.val
        omega
      | ⟨1, _⟩ =>
        show q.val * 1 + ((⟨3, ![1, 1, 8]⟩ : Shape).rowMajor.symm n 1).val - 0 = q.val
        omega
      | ⟨2, _⟩ =>
        show j.val * 1 + ((⟨3, ![1, 1, 8]⟩ : Shape).rowMajor.symm n 2).val - 7 = (j.val + k.val - 7) % 8
        omega
    · next hin =>
      rw [if_neg fun hle => hin fun a => by
        match a with
        | ⟨0, _⟩ =>
          show 0 ≤ r.val * 1 + ((⟨3, ![1, 1, 8]⟩ : Shape).rowMajor.symm n 0).val
            ∧ r.val * 1 + ((⟨3, ![1, 1, 8]⟩ : Shape).rowMajor.symm n 0).val - 0 < 4096
          omega
        | ⟨1, _⟩ =>
          show 0 ≤ q.val * 1 + ((⟨3, ![1, 1, 8]⟩ : Shape).rowMajor.symm n 1).val
            ∧ q.val * 1 + ((⟨3, ![1, 1, 8]⟩ : Shape).rowMajor.symm n 1).val - 0 < 512
          omega
        | ⟨2, _⟩ =>
          show 7 ≤ j.val * 1 + ((⟨3, ![1, 1, 8]⟩ : Shape).rowMajor.symm n 2).val
            ∧ j.val * 1 + ((⟨3, ![1, 1, 8]⟩ : Shape).rowMajor.symm n 2).val - 7 < 8
          omega]
      exact EReal.coe_zero.symm
  rw [sum_idx3]
  simp only [Fin.sum_univ_one]
  refine (Finset.sum_congr rfl fun k _ => (rfl : _ = (((if 7 ≤ j.val + k.val then v ⟨(j.val + k.val - 7) % 8, by omega⟩ else 0 : ℝ)) : EReal))).trans ?_
  rw [Fin.sum_univ_eight]
  simp only [← EReal.coe_add]
  congr 1
  fin_cases j <;> simp [cum, tot]

/-! ## Reading a row at a word -/

/-- The reference's read of one of the 8 entries of each row, at the row's word. -/
def take8 (x : FVec Ideal S4096x512x8 .f32) (i : IVec S4096x512 32) : FVec Ideal S4096x512 .f32 :=
  let i1 : IVec S4096x512x1 32 := broadcastInDim S4096x512x1 ![0, 1] bcast_S4096x512_S4096x512x1_0_1 i
  let w : IVec S4096x512x1x1 32 := shapeCast _ (select (cmpi .slt i1 (broadcastInDim S4096x512x1 ![] bcast_S_S4096x512x1 (constantI S_ 32 0#32))) (addi i1 (broadcastInDim S4096x512x1 ![] bcast_S_S4096x512x1 (constantI S_ 32 8#32))) i1) shapeCasts_S4096x512x1_S4096x512x1x1
  shapeCast _ (select (Host.reduce IntOp.andi (andi (cmpi .sge w (broadcastInDim S4096x512x1x1 ![] bcast_S_S4096x512x1x1 (constantI S_ 32 0#32))) (cmpi .sle w (broadcastInDim S4096x512x1x1 ![0, 1, 2, 3] bcast_S1x1x1x1_S4096x512x1x1_0_1_2_3 (broadcastInDim S1x1x1x1 ![3] bcast_S1_S1x1x1x1_3 (constantI S1 32 7#32))))) (constantI S_ 1 1#1) reducesTo_S4096x512x1x1_S4096x512x1_d3 h_S_) (Host.gather gather_S4096x512x8_S4096x512x1x1_S4096x512x1_n_2_01_01_2_3_111 x w) (broadcastInDim S4096x512x1 ![] bcast_S_S4096x512x1 (constant S_ .f32 0x7FC00000#32))) shapeCasts_S4096x512x1_S4096x512

/-- The gather of one entry per row: the word's entry. -/
theorem gather8_at (x : FVec Ideal S4096x512x8 .f32) (w : IVec S4096x512x1x1 32) (r : Fin 4096) (q : Fin 512) (k : Fin 8)
    (hw : w (ix4 r q 0 0) = BitVec.ofNat 32 k.val) :
    Host.gather gather_S4096x512x8_S4096x512x1x1_S4096x512x1_n_2_01_01_2_3_111 x w (ix3 r q (0 : Fin 1)) = x (ix3 r q k) := by
  unfold Host.gather
  refine congrArg x (funext fun a => Fin.ext ?_)
  let d := gather_S4096x512x8_S4096x512x1x1_S4096x512x1_n_2_01_01_2_3_111
  let y : S4096x512x1.Idx := ix3 r q (0 : Fin 1)
  show d.start y w a + d.batchCoord y a + d.offCoord y a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide)]
    have hsi : d.siIdx y ⟨List.idxOf (2 : Fin 3) d.startIndexMap, List.idxOf_lt_length_iff.2 (by decide)⟩ = ix4 r q (0 : Fin 1) (0 : Fin 1) := by
      funext b; refine Fin.ext ?_
      match b with
      | ⟨0, _⟩ => rfl
      | ⟨1, _⟩ => rfl
      | ⟨2, _⟩ => rfl
      | ⟨3, _⟩ => rfl
    show min (w (d.siIdx y ⟨List.idxOf (2 : Fin 3) d.startIndexMap, _⟩)).toInt.toNat 7 = k.val
    rw [hsi, hw]
    clear hw
    revert k
    decide

/-- Reading at a word that holds an entry's position is that entry. -/
theorem take8_at (x : FVec Ideal S4096x512x8 .f32) (i : IVec S4096x512 32) (r : Fin 4096) (q : Fin 512) (k : Fin 8)
    (hi : i (ix2 r q) = BitVec.ofNat 32 k.val) : take8 x i (ix2 r q) = x (ix3 r q k) := by
  unfold take8
  pointwise
  rw [gather8_at x _ r q k (by
    pointwise
    rw [hi]
    clear hi
    revert k
    decide), hi]
  clear hi
  have hm : ∀ k : Fin 8, Finset.fold IntOp.andi (1#1) (fun _ : Fin 1 => IntOp.andi
      (IntOp.cmpi CmpIPredicate.sge (Scalar.select (IntOp.cmpi CmpIPredicate.slt (BitVec.ofNat 32 k.val) 0#32) (IntOp.addi (BitVec.ofNat 32 k.val) 8#32) (BitVec.ofNat 32 k.val)) 0#32)
      (IntOp.cmpi CmpIPredicate.sle (Scalar.select (IntOp.cmpi CmpIPredicate.slt (BitVec.ofNat 32 k.val) 0#32) (IntOp.addi (BitVec.ofNat 32 k.val) 8#32) (BitVec.ofNat 32 k.val)) 7#32))
      Finset.univ = 1#1 := by decide
  exact (congrArg (fun b => Scalar.select b _ _) (hm k)).trans (if_pos rfl)

/-- The reference's read of one of the 9 entries of each row, at the row's word. -/
def take9 (x : FVec Ideal S4096x512x9 .f32) (i : IVec S4096x512 32) : FVec Ideal S4096x512 .f32 :=
  let i1 : IVec S4096x512x1 32 := broadcastInDim S4096x512x1 ![0, 1] bcast_S4096x512_S4096x512x1_0_1 i
  let w : IVec S4096x512x1x1 32 := shapeCast _ (select (cmpi .slt i1 (broadcastInDim S4096x512x1 ![] bcast_S_S4096x512x1 (constantI S_ 32 0#32))) (addi i1 (broadcastInDim S4096x512x1 ![] bcast_S_S4096x512x1 (constantI S_ 32 9#32))) i1) shapeCasts_S4096x512x1_S4096x512x1x1
  shapeCast _ (select (Host.reduce IntOp.andi (andi (cmpi .sge w (broadcastInDim S4096x512x1x1 ![] bcast_S_S4096x512x1x1 (constantI S_ 32 0#32))) (cmpi .sle w (broadcastInDim S4096x512x1x1 ![0, 1, 2, 3] bcast_S1x1x1x1_S4096x512x1x1_0_1_2_3 (broadcastInDim S1x1x1x1 ![3] bcast_S1_S1x1x1x1_3 (constantI S1 32 8#32))))) (constantI S_ 1 1#1) reducesTo_S4096x512x1x1_S4096x512x1_d3 h_S_) (Host.gather gather_S4096x512x9_S4096x512x1x1_S4096x512x1_n_2_01_01_2_3_111 x w) (broadcastInDim S4096x512x1 ![] bcast_S_S4096x512x1 (constant S_ .f32 0x7FC00000#32))) shapeCasts_S4096x512x1_S4096x512

/-- The gather of one entry per row: the word's entry. -/
theorem gather9_at (x : FVec Ideal S4096x512x9 .f32) (w : IVec S4096x512x1x1 32) (r : Fin 4096) (q : Fin 512) (k : Fin 9)
    (hw : w (ix4 r q 0 0) = BitVec.ofNat 32 k.val) :
    Host.gather gather_S4096x512x9_S4096x512x1x1_S4096x512x1_n_2_01_01_2_3_111 x w (ix3 r q (0 : Fin 1)) = x (ix3 r q k) := by
  unfold Host.gather
  refine congrArg x (funext fun a => Fin.ext ?_)
  let d := gather_S4096x512x9_S4096x512x1x1_S4096x512x1_n_2_01_01_2_3_111
  let y : S4096x512x1.Idx := ix3 r q (0 : Fin 1)
  show d.start y w a + d.batchCoord y a + d.offCoord y a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide)]
    have hsi : d.siIdx y ⟨List.idxOf (2 : Fin 3) d.startIndexMap, List.idxOf_lt_length_iff.2 (by decide)⟩ = ix4 r q (0 : Fin 1) (0 : Fin 1) := by
      funext b; refine Fin.ext ?_
      match b with
      | ⟨0, _⟩ => rfl
      | ⟨1, _⟩ => rfl
      | ⟨2, _⟩ => rfl
      | ⟨3, _⟩ => rfl
    show min (w (d.siIdx y ⟨List.idxOf (2 : Fin 3) d.startIndexMap, _⟩)).toInt.toNat 8 = k.val
    rw [hsi, hw]
    clear hw
    revert k
    decide

/-- Reading at a word that holds an entry's position is that entry. -/
theorem take9_at (x : FVec Ideal S4096x512x9 .f32) (i : IVec S4096x512 32) (r : Fin 4096) (q : Fin 512) (k : Fin 9)
    (hi : i (ix2 r q) = BitVec.ofNat 32 k.val) : take9 x i (ix2 r q) = x (ix3 r q k) := by
  unfold take9
  pointwise
  rw [gather9_at x _ r q k (by
    pointwise
    rw [hi]
    clear hi
    revert k
    decide), hi]
  clear hi
  have hm : ∀ k : Fin 9, Finset.fold IntOp.andi (1#1) (fun _ : Fin 1 => IntOp.andi
      (IntOp.cmpi CmpIPredicate.sge (Scalar.select (IntOp.cmpi CmpIPredicate.slt (BitVec.ofNat 32 k.val) 0#32) (IntOp.addi (BitVec.ofNat 32 k.val) 9#32) (BitVec.ofNat 32 k.val)) 0#32)
      (IntOp.cmpi CmpIPredicate.sle (Scalar.select (IntOp.cmpi CmpIPredicate.slt (BitVec.ofNat 32 k.val) 0#32) (IntOp.addi (BitVec.ofNat 32 k.val) 9#32) (BitVec.ofNat 32 k.val)) 8#32))
      Finset.univ = 1#1 := by decide
  exact (congrArg (fun b => Scalar.select b _ _) (hm k)).trans (if_pos rfl)

/-! ## The count -/

/-- One less than the number of eight decreasing conditions that hold, the first of which does; a word in `0 … 7`. -/
theorem count_at (b : Fin 9 → Bool) (h0 : b 0 = true) (h8 : b 8 = false) (hm : ∀ i j : Fin 9, i ≤ j → b j = true → b i = true) :
    IntOp.minsi 7#32 (IntOp.maxsi 0#32 (IntOp.subi (Finset.fold IntOp.addi 0#32 (fun k : Fin 9 => BitVec.setWidth 32 (BitVec.ofBool (b k))) Finset.univ) 1#32))
      = BitVec.ofNat 32 ((if b 7 then 7 else if b 6 then 6 else if b 5 then 5 else if b 4 then 4 else if b 3 then 3 else if b 2 then 2
          else if b 1 then 1 else 0 : Fin 8)).val := by
  have e : Finset.fold IntOp.addi 0#32 (fun k : Fin 9 => BitVec.setWidth 32 (BitVec.ofBool (b k))) Finset.univ
      = (fun c : Fin 9 → Bool => Finset.fold IntOp.addi 0#32 (fun k : Fin 9 => BitVec.setWidth 32 (BitVec.ofBool (c k))) Finset.univ)
        ![b 0, b 1, b 2, b 3, b 4, b 5, b 6, b 7, b 8] := by
    refine Finset.fold_congr fun k _ => ?_
    fin_cases k <;> rfl
  rw [e, h0, h8]
  have m1 := hm 1 2 (by decide)
  have m2 := hm 2 3 (by decide)
  have m3 := hm 3 4 (by decide)
  have m4 := hm 4 5 (by decide)
  have m5 := hm 5 6 (by decide)
  have m6 := hm 6 7 (by decide)
  clear e hm h0 h8
  generalize b 1 = b1 at *
  generalize b 2 = b2 at *
  generalize b 3 = b3 at *
  generalize b 4 = b4 at *
  generalize b 5 = b5 at *
  generalize b 6 = b6 at *
  generalize b 7 = b7 at *
  clear b
  revert b1 b2 b3 b4 b5 b6 b7
  decide

/-! ## The largest of eight reals -/

/-- The largest of eight reals, however it is started from the bottom, is a real. -/
theorem max_real (v : Fin 8 → ℝ) (b b' : EReal) (hb : b = ⊥) (hb' : b' = ⊥) :
    ∃ M : ℝ, max b (Finset.fold max b' (fun k => ((v k : ℝ) : EReal)) Finset.univ) = ((M : ℝ) : EReal) := by
  subst hb hb'
  rw [max_eq_right bot_le]
  refine ⟨_, (EReal.coe_toReal ?_ ?_).symm⟩
  · refine ne_of_lt (Finset.fold_max_lt _ |>.mpr ⟨bot_lt_top, fun k _ => EReal.coe_lt_top _⟩)
  · refine (ne_of_gt (Finset.lt_fold_max _ |>.mpr (Or.inr ⟨0, Finset.mem_univ _, EReal.bot_lt_coe _⟩)))

end Cert.ReferenceIdeal.Read

end

end
-- ==== Proof.Same.lean ====
module

public import proofs.«01_k».proof.Proof.Net
public import Mathlib.Tactic.Positivity
public import Mathlib.Tactic.FieldSimp
public import Mathlib.Tactic.Ring
public import Mathlib.Tactic.Linarith

@[expose] public section

noncomputable section

/-! # The spline as the reference writes it, and as the kernel does

The reference scales the widths and the heights to add up to ten; the kernel divides by their sums at the end. The
reference divides by the denominator; the kernel multiplies by its reciprocal. Where the denominator is zero both are
the same infinity, or the same number. -/

namespace Cert.Spline

open Idealize.ShloMosaic

/-! ## The knots and the bin -/

/-- The knots, as reals: the first at `e - 5`, the others at the running sums less five. -/
def knot (e : ℝ) (v : Fin 8 → ℝ) (k : Fin 9) : ℝ := if k.val < 1 then e - 5 else cum v k - 5

/-- Eight numbers scaled to add up to ten. -/
def ten (v : Fin 8 → ℝ) : Fin 8 → ℝ := fun k => 10 * (v k / tot v)

theorem cum_ten (v : Fin 8 → ℝ) (k : Fin 9) : cum (ten v) k = 10 * (cum v k / tot v) := by
  fin_cases k <;> simp [cum, ten] <;> first | ring1 | (simp only [tot, ten]; ring1)

theorem ten_pos {v : Fin 8 → ℝ} (h : ∀ k, 0 < v k) (k : Fin 8) : 0 < ten v k := by
  have := h k; have := tot_pos h; unfold ten; positivity

theorem knot_zero (e : ℝ) (v : Fin 8 → ℝ) : knot e v 0 = e - 5 := rfl
theorem knot_eight {v : Fin 8 → ℝ} (e : ℝ) (h : ∀ k, 0 < v k) : knot e (ten v) 8 = 5 := by
  have ht := (tot_pos h).ne'
  refine (if_neg (by decide)).trans ?_
  rw [cum_ten, show cum v 8 = tot v from rfl, div_self ht]
  norm_num

/-- The knots increase. -/
theorem knot_mono {e : ℝ} {v : Fin 8 → ℝ} (he : e ≤ 0) (h : ∀ k, 0 < v k) : Monotone (knot e v) := by
  have h0 := h 0; have h1 := h 1; have h2 := h 2; have h3 := h 3; have h4 := h 4; have h5 := h 5; have h6 := h 6; have h7 := h 7
  refine Fin.monotone_iff_le_succ.mpr fun i => ?_
  fin_cases i <;> simp [knot, cum, tot] <;> linarith

/-- Equal conditions choose equal bins. -/
theorem bin_congr {t t' : ℝ} {c c' : Fin 9 → ℝ} (h : ∀ k : Fin 9, 1 ≤ k.val → (c k < t ↔ c' k < t')) : bin t c = bin t' c' := by
  unfold bin
  simp only [h 1 (by decide), h 2 (by decide), h 3 (by decide), h 4 (by decide), h 5 (by decide), h 6 (by decide), h 7 (by decide)]

/-- The reference's bin is the kernel's. -/
theorem bin_eq (n : Net) (c e : ℝ) : bin c (knot e (ten (wd n))) = bn n c := by
  have ht := tot_pos (wd_pos n)
  refine bin_congr fun k hk => ?_
  rw [show knot e (ten (wd n)) k = cum (ten (wd n)) k - 5 from if_neg (by omega), cum_ten]
  have e1 : 10 * (cum (wd n) k / tot (wd n)) - 5 < c ↔ cum (wd n) k / tot (wd n) < (c + 5) * (1 / 10) := by
    constructor <;> intro h <;> linarith
  rw [e1, div_lt_iff₀ ht]
  unfold pos
  rw [show (c + 5) * (1 / 10) * tot (wd n) = (c + 5) * (tot (wd n) * (1 / 10)) from by ring]

/-! ## The parts read at the bin -/

/-- The mean slope. -/
theorem ms_eq (n : Net) (c : ℝ) : ten (ht n) (bn n c) * (1 / ten (wd n) (bn n c)) = ms n c := by
  have h1 := (ht_pos n (bn n c)).ne'
  have h2 := (wd_pos n (bn n c)).ne'
  have h3 := (tot_pos (ht_pos n)).ne'
  have h4 := (tot_pos (wd_pos n)).ne'
  unfold ms ten
  field_simp

/-- The relative position. -/
theorem al_eq (n : Net) (c : ℝ) :
    (c - knot (-8796093 / 8796093022208) (ten (wd n)) (bn n c).castSucc) * (1 / ten (wd n) (bn n c)) = al n c := by
  have h2 := (wd_pos n (bn n c)).ne'
  have h4 := (tot_pos (wd_pos n)).ne'
  have key : ∀ b : Fin 8, (c - knot (-8796093 / 8796093022208) (ten (wd n)) b.castSucc) * tot (wd n) * (1 / 10) = pos n c - left n b := by
    intro b
    by_cases hb : b = 0
    · subst hb
      show (c - (-8796093 / 8796093022208 - 5)) * tot (wd n) * (1 / 10) = pos n c - (-8796093 / 87960930222080) * tot (wd n)
      unfold pos
      ring
    · have hl : left n b = cum (wd n) b.castSucc := by
        fin_cases b
        · exact absurd rfl hb
        all_goals rfl
      have hv : ¬ b.castSucc.val < 1 := fun h => hb (Fin.ext (by show b.val = 0; change b.val < 1 at h; omega))
      rw [hl, show knot (-8796093 / 8796093022208) (ten (wd n)) b.castSucc = cum (ten (wd n)) b.castSucc - 5 from if_neg hv, cum_ten]
      unfold pos
      field_simp
      ring
  unfold al
  rw [← key]
  unfold ten
  field_simp

/-- The left end of the bin's values. -/
theorem base_eq (v : Fin 8 → ℝ) (b : Fin 8) : knot 0 (ten v) b.castSucc = 10 * (cum v b.castSucc / tot v) - 5 := by
  by_cases hb : b = 0
  · subst hb
    show (0 : ℝ) - 5 = 10 * (0 / tot v) - 5
    ring
  · have hv : ¬ b.castSucc.val < 1 := fun h => hb (Fin.ext (by show b.val = 0; change b.val < 1 at h; omega))
    rw [show knot 0 (ten v) b.castSucc = cum (ten v) b.castSucc - 5 from if_neg hv, cum_ten]

/-! ## The value and the derivative -/

/-- A quotient by zero. -/
theorem div_zero' (x : EReal) : Ideal.div x ((0 : ℝ) : EReal) = if 0 < x then ⊤ else ⊥ := by
  unfold Ideal.div
  simp

/-- The value at a point: a quotient times the numerator, or the reciprocal times their product. -/
theorem value_eq (n : Net) (c : ℝ) :
    ((10 * (cum (ht n) (bn n c).castSucc / tot (ht n)) - 5 : ℝ) : EReal)
      + Ideal.div ((ten (ht n) (bn n c) : ℝ) : EReal) ((den n c : ℝ) : EReal) * ((num n c : ℝ) : EReal) = phiV n c := by
  have hT := tot_pos (ht_pos n)
  have hh := ht_pos n (bn n c)
  have h10 : 0 < 10 * (1 / tot (ht n)) := by positivity
  have hten := ten_pos (ht_pos n) (bn n c)
  unfold phiV
  by_cases hd : den n c = 0
  · rw [hd, div_zero', div_zero', if_pos (EReal.coe_pos.mpr hten), if_pos (EReal.coe_pos.mpr one_pos)]
    rcases lt_trichotomy (num n c) 0 with hn | hn | hn
    · rw [EReal.top_mul_coe_of_neg hn, EReal.coe_mul_top_of_neg (mul_neg_of_pos_of_neg hh hn), EReal.add_bot, EReal.add_bot,
        EReal.bot_mul_coe_of_pos h10, sub_eq_add_neg, EReal.bot_add]
    · rw [hn, mul_zero, EReal.coe_zero, mul_zero, zero_mul, add_zero, add_zero, ← EReal.coe_mul, ← EReal.coe_sub]
      congr 1
      ring
    · rw [EReal.top_mul_coe_of_pos hn, EReal.coe_mul_top_of_pos (mul_pos hh hn), EReal.coe_add_top, EReal.coe_add_top,
        EReal.top_mul_coe_of_pos h10, EReal.top_sub_coe]
  · rw [Ideal.div_coe hd, Ideal.div_coe hd]
    simp only [← EReal.coe_add, ← EReal.coe_mul, ← EReal.coe_sub]
    congr 1
    unfold ten
    have hT' := hT.ne'
    field_simp
    ring

/-- The logarithm of the derivative at a point. -/
theorem slope_eq (n : Net) (c : ℝ) :
    Ideal.log (Ideal.div ((gnum n c : ℝ) : EReal) (((den n c : ℝ) : EReal) * ((den n c : ℝ) : EReal))) = Ideal.log (gradV n c) := by
  unfold gradV
  rw [← EReal.coe_mul]
  by_cases hd : den n c = 0
  · rw [hd, mul_zero, div_zero', div_zero', if_pos (EReal.coe_pos.mpr one_pos)]
    rcases lt_trichotomy (gnum n c) 0 with hn | hn | hn
    · rw [if_neg (not_lt.mpr (EReal.coe_nonpos.mpr hn.le)), EReal.coe_mul_top_of_neg hn, EReal.bot_mul_top]
    · rw [hn, if_neg (by simp), EReal.coe_zero, zero_mul, zero_mul, ← EReal.coe_zero, Ideal.log_coe, if_pos le_rfl]
      rfl
    · rw [if_pos (EReal.coe_pos.mpr hn), EReal.coe_mul_top_of_pos hn, EReal.top_mul_top]
  · rw [Ideal.div_coe (mul_ne_zero hd hd), Ideal.div_coe hd]
    simp only [← EReal.coe_mul]
    congr 2
    field_simp

end Cert.Spline

end

end
-- ==== Proof.Ops.lean ====
module

public import proofs.«01_k».proof.Proof.Read
public import proofs.«01_k».proof.Proof.Same

@[expose] public section

set_option maxRecDepth 16384

noncomputable section

/-! # The reference's array operations at an index

Each definition is one step of the reference as a function of the arrays it reads; each theorem says what that step
holds at a point, in reals. -/

namespace Cert.ReferenceIdeal.Ops

open Cert.ReferenceIdeal Cert.ReferenceIdeal.Gen Cert.ReferenceIdeal.Read Cert.Spline
open Idealize.ShloMosaic

variable {r : Fin 4096} {q : Fin 512}

/-! ## The eight heights and the eight widths -/

/-- The largest of each row. -/
def rowMax (x : FVec Ideal S4096x512x8 .f32) : FVec Ideal S4096x512 .f32 :=
  Host.reduce FloatOps.maximumf x (constant S_ .f32 0xFF800000#32) reducesTo_S4096x512x8_S4096x512_d2 h_S_

theorem rowMax_at (x : FVec Ideal S4096x512x8 .f32) :
    rowMax x (ix2 r q) = Finset.fold max (Ideal.ofBits .f32 0xFF800000#32) (fun k : Fin 8 => x (ix3 r q k)) Finset.univ := by
  unfold rowMax
  pointwise

/-- The exponentials of each row, less a number of the row. -/
def expLess (x : FVec Ideal S4096x512x8 .f32) (f : FVec Ideal S4096x512 .f32) : FVec Ideal S4096x512x8 .f32 :=
  Host.exp (subf x (broadcastInDim S4096x512x8 ![0, 1, 2] bcast_S4096x512x1_S4096x512x8_0_1_2 (broadcastInDim S4096x512x1 ![0, 1] bcast_S4096x512_S4096x512x1_0_1 (maximumf (broadcastInDim S4096x512 ![] bcast_S_S4096x512 (constant S_ .f32 0xFF800000#32)) f))))

theorem expLess_at (x : FVec Ideal S4096x512x8 .f32) (f : FVec Ideal S4096x512 .f32) (j : Fin 8) :
    expLess x f (ix3 r q j) = Ideal.exp (x (ix3 r q j) - max (Ideal.ofBits .f32 0xFF800000#32) (f (ix2 r q))) := by
  unfold expLess
  pointwise

theorem shiftedExp_at (x : FVec Ideal S4096x512x8 .f32) (v : Fin 8 → ℝ) (hx : ∀ k, x (ix3 r q k) = ((v k : ℝ) : EReal)) :
    ∃ M : ℝ, ∀ j : Fin 8, expLess x (rowMax x) (ix3 r q j) = ((Real.exp (v j - M) : ℝ) : EReal) := by
  obtain ⟨M, hM⟩ := max_real v (Ideal.ofBits .f32 0xFF800000#32) (Ideal.ofBits .f32 0xFF800000#32) Consts.bits_bot Consts.bits_bot
  refine ⟨M, fun j => ?_⟩
  rw [expLess_at, rowMax_at]
  simp only [hx]
  rw [hM, ← EReal.coe_sub, Ideal.exp_coe]

/-- Each row over its sum, times ten. -/
def scaled (x : FVec Ideal S4096x512x8 .f32) : FVec Ideal S4096x512x8 .f32 :=
  mulf (mulf (Host.divf x (broadcastInDim S4096x512x8 ![0, 1, 2] bcast_S4096x512x1_S4096x512x8_0_1_2 (broadcastInDim S4096x512x1 ![0, 1] bcast_S4096x512_S4096x512x1_0_1 (Host.reduceAdd x (constant S_ .f32 0x00000000#32) reducesTo_S4096x512x8_S4096x512_d2 h_S_)))) (broadcastInDim S4096x512x8 ![] bcast_S_S4096x512x8 (constant S_ .f32 0x40000000#32))) (broadcastInDim S4096x512x8 ![] bcast_S_S4096x512x8 (constant S_ .f32 0x40A00000#32))

/-- Exponentials shifted by a common number, over their sum: the number cancels. -/
theorem scaled_at (x : FVec Ideal S4096x512x8 .f32) (v : Fin 8 → ℝ) (hx : ∃ M : ℝ, ∀ k, x (ix3 r q k) = ((Real.exp (v k - M) : ℝ) : EReal)) (j : Fin 8) :
    scaled x (ix3 r q j) = ((10 * (Real.exp (v j) / tot (fun k => Real.exp (v k))) : ℝ) : EReal) := by
  obtain ⟨M, hM⟩ := hx
  have ht : 0 < tot (fun k => Real.exp (v k)) := tot_pos fun k => Real.exp_pos _
  have hs : ∑ k : Fin 8, Real.exp (v k - M) = tot (fun k => Real.exp (v k)) * Real.exp (-M) := by
    rw [Fin.sum_univ_eight]
    simp only [sub_eq_add_neg, Real.exp_add]
    unfold tot
    ring
  have hE : Real.exp (-M) ≠ 0 := (Real.exp_pos _).ne'
  unfold scaled
  pointwise
  simp only [hM, coe_sum]
  rw [hs, Ideal.div_coe (mul_ne_zero ht.ne' hE), Consts.bits_two, Consts.bits_five, ← EReal.coe_mul, ← EReal.coe_mul, ← EReal.coe_mul]
  congr 1
  rw [sub_eq_add_neg, Real.exp_add]
  have ht' := ht.ne'
  field_simp
  ring

/-! ## The nine slopes -/

/-- The softplus, as the reference writes it. -/
theorem softplus (x : ℝ) : max x 0 + Real.log (1 + Real.exp (-max x (-x))) = Real.log (1 + Real.exp x) := by
  have hp : 0 < 1 + Real.exp (-x) := by positivity
  rcases le_total 0 x with h | h
  · rw [max_eq_left h, max_eq_left (by linarith : -x ≤ x)]
    have e : 1 + Real.exp x = Real.exp x * (1 + Real.exp (-x)) := by
      rw [mul_add, mul_one, ← Real.exp_add, add_neg_cancel, Real.exp_zero, add_comm]
    rw [e, Real.log_mul (Real.exp_pos x).ne' hp.ne', Real.log_exp]
  · rw [max_eq_right h, max_eq_right (by linarith : x ≤ -x), zero_add, neg_neg]

/-- The softplus of the seven inner slopes. -/
def softs (x : FVec Ideal S4096x512x7 .f32) : FVec Ideal S4096x512x7 .f32 :=
  select (cmpf .une (subf x (broadcastInDim S4096x512x7 ![] bcast_S_S4096x512x7 (constant S_ .f32 0x00000000#32))) (subf x (broadcastInDim S4096x512x7 ![] bcast_S_S4096x512x7 (constant S_ .f32 0x00000000#32)))) (addf x (broadcastInDim S4096x512x7 ![] bcast_S_S4096x512x7 (constant S_ .f32 0x00000000#32))) (addf (maximumf x (broadcastInDim S4096x512x7 ![] bcast_S_S4096x512x7 (constant S_ .f32 0x00000000#32))) (Host.log1p (Host.exp (Host.negf (Host.absf (subf x (broadcastInDim S4096x512x7 ![] bcast_S_S4096x512x7 (constant S_ .f32 0x00000000#32))))))))

theorem softs_at (x : FVec Ideal S4096x512x7 .f32) (v : Fin 7 → ℝ) (hx : ∀ k, x (ix3 r q k) = ((v k : ℝ) : EReal)) (j : Fin 7) :
    softs x (ix3 r q j) = ((Real.log (1 + Real.exp (v j)) : ℝ) : EReal) := by
  unfold softs
  pointwise
  rw [if_neg (by simp), hx]
  show max ((v j : ℝ) : EReal) 0 + Ideal.log1p (Ideal.exp (-max ((v j : ℝ) : EReal) (-((v j : ℝ) : EReal)))) = _
  rw [← EReal.coe_neg, ← EReal.coe_strictMono.monotone.map_max, ← EReal.coe_neg, Ideal.exp_coe, ← EReal.coe_zero, ← EReal.coe_strictMono.monotone.map_max]
  unfold Ideal.log1p
  rw [← EReal.coe_one, ← EReal.coe_add, Ideal.log_coe, if_neg (not_le.mpr (by positivity)), ← EReal.coe_add, softplus]

/-- The slopes at the nine knots: one at the two ends. -/
def slopes (x : FVec Ideal S4096x512x7 .f32) : FVec Ideal S4096x512x9 .f32 :=
  pad S4096x512x9 ![0, 0, 1] ![0, 0, 1] ![0, 0, 0] x (id (constant S_ .f32 0x3F800000#32)) pads_S4096x512x7_S4096x512x9_000_000_110 h_S_

theorem slopes_at (x : FVec Ideal S4096x512x7 .f32) (n : Cert.Spline.Net) (hx : ∀ k : Fin 7, x (ix3 r q k) = ((soft n k : ℝ) : EReal)) (j : Fin 9) :
    slopes x (ix3 r q j) = ((sl n j : ℝ) : EReal) := by
  unfold slopes
  pointwise
  have hj := j.isLt
  by_cases h : 1 ≤ j.val ∧ j.val - 1 < 7
  · rw [dif_pos h, hx]
    congr 1
    have key : ∀ k : Fin 7, soft n k = sl n ⟨k.val + 1, by omega⟩ := fun k => by fin_cases k <;> rfl
    refine (key ⟨j.val - 1, h.2⟩).trans (congrArg (sl n) (Fin.ext ?_))
    show j.val - 1 + 1 = j.val
    omega
  · rw [dif_neg h]
    refine Consts.bits_one.trans (congrArg _ ?_)
    have h2 : j = 0 ∨ j = 8 := by
      rcases Nat.lt_or_ge j.val 1 with h1 | h1
      · exact Or.inl (Fin.ext (by show j.val = 0; omega))
      · exact Or.inr (Fin.ext (by show j.val = 8; omega))
    rcases h2 with rfl | rfl <;> rfl

/-! ## The knots -/

/-- The running sums of the rows, with a given first entry, moved left by five. -/
def knots (e : BitVec 32) (x : FVec Ideal S4096x512x8 .f32) : FVec Ideal S4096x512x9 .f32 :=
  subf (concatenate S4096x512x9 2 [⟨S4096x512x1, (broadcastInDim S4096x512x1 ![] bcast_S_S4096x512x1 (constant S_ .f32 e))⟩, ⟨S4096x512x8, (Host.reduceWindowAdd ![1, 1, 8] ![1, 1, 1] ![0, 0, 7] ![0, 0, 0] x (broadcastInDim S_ ![] bcast_S_S_ (constant S_ .f32 0x00000000#32)) reduceWindows_S4096x512x8_S4096x512x8_w1s1p0_0_w1s1p0_0_w8s1p7_0 h_S_)⟩] concatenates_S4096x512x1_S4096x512x8_S4096x512x9_d2) (broadcastInDim S4096x512x9 ![] bcast_S_S4096x512x9 (constant S_ .f32 0x40A00000#32))

theorem knots_at (e : BitVec 32) (e' : ℝ) (he : Ideal.ofBits .f32 e = ((e' : ℝ) : EReal)) (x : FVec Ideal S4096x512x8 .f32) (v : Fin 8 → ℝ)
    (hx : ∀ k, x (ix3 r q k) = ((v k : ℝ) : EReal)) (j : Fin 9) : knots e x (ix3 r q j) = ((knot e' v j : ℝ) : EReal) := by
  unfold knots knot
  pointwise
  by_cases h : j.val < 1
  · rw [dif_pos h, if_pos h, he, Consts.bits_five, ← EReal.coe_sub]
  · rw [dif_neg h, if_neg h, cumsum_at x r q v hx, Consts.bits_five, ← EReal.coe_sub]
    congr 3
    refine Fin.ext ?_
    show j.val - 1 + 1 = j.val
    omega

/-! ## The bin -/

/-- One less than the number of knots to the left of a point, kept in `0 … 7`. -/
def bins (k : FVec Ideal S4096x512x9 .f32) (c : FVec Ideal S4096x512 .f32) : IVec S4096x512 32 :=
  minsi (broadcastInDim S4096x512 ![] bcast_S_S4096x512 (id (constantI S_ 32 7#32))) (maxsi (broadcastInDim S4096x512 ![] bcast_S_S4096x512 (id (constantI S_ 32 0#32))) (subi (Host.reduce IntOp.addi (extui 32 (cmpf .olt k (broadcastInDim S4096x512x9 ![0, 1, 2] bcast_S4096x512x1_S4096x512x9_0_1_2 (broadcastInDim S4096x512x1 ![0, 1] bcast_S4096x512_S4096x512x1_0_1 c))) natLt_1_32) (constantI S_ 32 0#32) reducesTo_S4096x512x9_S4096x512_d2 h_S_) (broadcastInDim S4096x512 ![] bcast_S_S4096x512 (constantI S_ 32 1#32))))

theorem bins_at (k : FVec Ideal S4096x512x9 .f32) (c : FVec Ideal S4096x512 .f32) (kr : Fin 9 → ℝ) (cr : ℝ)
    (hk : ∀ j, k (ix3 r q j) = ((kr j : ℝ) : EReal)) (hc : c (ix2 r q) = ((cr : ℝ) : EReal))
    (h0 : kr 0 < cr) (h8 : cr ≤ kr 8) (hm : Monotone kr) :
    bins k c (ix2 r q) = BitVec.ofNat 32 (bin cr kr).val := by
  have e : bin cr kr = (if decide (kr 7 < cr) then 7 else if decide (kr 6 < cr) then 6 else if decide (kr 5 < cr) then 5
      else if decide (kr 4 < cr) then 4 else if decide (kr 3 < cr) then 3 else if decide (kr 2 < cr) then 2
      else if decide (kr 1 < cr) then 1 else 0 : Fin 8) := by
    simp only [decide_eq_true_eq]
    rfl
  rw [e]
  unfold bins
  pointwise
  simp only [hk, hc, EReal.coe_lt_coe_iff]
  exact count_at (fun j => decide (kr j < cr)) (decide_eq_true h0) (decide_eq_false (not_lt.mpr h8))
    (fun i j hij hj => decide_eq_true (lt_of_le_of_lt (hm hij) (of_decide_eq_true hj)))

/-! ## The two results from what was read -/

/-- A quotient. -/
def quotOf (x y : FVec Ideal S4096x512 .f32) : FVec Ideal S4096x512 .f32 := Host.divf x y

theorem quotOf_at (x y : FVec Ideal S4096x512 .f32) : quotOf x y (ix2 r q) = Ideal.div (x (ix2 r q)) (y (ix2 r q)) := by
  unfold quotOf
  pointwise

/-- A difference's quotient. -/
def relOf (x k y : FVec Ideal S4096x512 .f32) : FVec Ideal S4096x512 .f32 := Host.divf (subf x k) y

theorem relOf_at (x k y : FVec Ideal S4096x512 .f32) :
    relOf x k y (ix2 r q) = Ideal.div (x (ix2 r q) - k (ix2 r q)) (y (ix2 r q)) := by
  unfold relOf
  pointwise

/-- The spline's value, from the parts read at the bin. -/
def valueOf (b h s a d D : FVec Ideal S4096x512 .f32) : FVec Ideal S4096x512 .f32 :=
  addf b (mulf (Host.divf h D) (addf (mulf s (mulf a a)) (mulf (mulf d a) (subf (broadcastInDim S4096x512 ![] bcast_S_S4096x512 (constant S_ .f32 0x3F800000#32)) a))))

/-- The spline's denominator, from the parts read at the bin. -/
def denOf (s e d a : FVec Ideal S4096x512 .f32) : FVec Ideal S4096x512 .f32 :=
  addf s (mulf (mulf (subf (addf e d) (mulf (broadcastInDim S4096x512 ![] bcast_S_S4096x512 (constant S_ .f32 0x40000000#32)) s)) a) (subf (broadcastInDim S4096x512 ![] bcast_S_S4096x512 (constant S_ .f32 0x3F800000#32)) a))

/-- The spline's derivative, from the parts read at the bin. -/
def slopeOf (s e a d D : FVec Ideal S4096x512 .f32) : FVec Ideal S4096x512 .f32 :=
  Host.divf (mulf (mulf s s) (addf (addf (mulf e (mulf a a)) (mulf (mulf (mulf (broadcastInDim S4096x512 ![] bcast_S_S4096x512 (constant S_ .f32 0x40000000#32)) s) a) (subf (broadcastInDim S4096x512 ![] bcast_S_S4096x512 (constant S_ .f32 0x3F800000#32)) a))) (mulf d (mulf (subf (broadcastInDim S4096x512 ![] bcast_S_S4096x512 (constant S_ .f32 0x3F800000#32)) a) (subf (broadcastInDim S4096x512 ![] bcast_S_S4096x512 (constant S_ .f32 0x3F800000#32)) a))))) (mulf D D)

theorem denOf_at (s e d a : FVec Ideal S4096x512 .f32) (s' e' d' a' : ℝ) (hs : s (ix2 r q) = ((s' : ℝ) : EReal)) (he : e (ix2 r q) = ((e' : ℝ) : EReal))
    (hd : d (ix2 r q) = ((d' : ℝ) : EReal)) (ha : a (ix2 r q) = ((a' : ℝ) : EReal)) :
    denOf s e d a (ix2 r q) = ((s' + ((e' + d') - 2 * s') * (a' * (1 - a')) : ℝ) : EReal) := by
  unfold denOf
  pointwise
  rw [hs, he, hd, ha, Consts.bits_two, ← EReal.coe_one]
  simp only [← EReal.coe_add, ← EReal.coe_mul, ← EReal.coe_sub]
  rw [mul_assoc]

theorem valueOf_at (b h s a d D : FVec Ideal S4096x512 .f32) (s' a' d' : ℝ) (hs : s (ix2 r q) = ((s' : ℝ) : EReal)) (ha : a (ix2 r q) = ((a' : ℝ) : EReal))
    (hd : d (ix2 r q) = ((d' : ℝ) : EReal)) :
    valueOf b h s a d D (ix2 r q) = b (ix2 r q) + Ideal.div (h (ix2 r q)) (D (ix2 r q)) * ((s' * a' * a' + d' * (a' * (1 - a')) : ℝ) : EReal) := by
  unfold valueOf
  pointwise
  rw [hs, hd, ha, ← EReal.coe_one]
  simp only [← EReal.coe_add, ← EReal.coe_mul, ← EReal.coe_sub]
  rw [mul_assoc s', mul_assoc d']

theorem slopeOf_at (s e a d D : FVec Ideal S4096x512 .f32) (s' e' a' d' : ℝ) (hs : s (ix2 r q) = ((s' : ℝ) : EReal)) (he : e (ix2 r q) = ((e' : ℝ) : EReal))
    (ha : a (ix2 r q) = ((a' : ℝ) : EReal)) (hd : d (ix2 r q) = ((d' : ℝ) : EReal)) :
    slopeOf s e a d D (ix2 r q)
      = Ideal.div ((s' * s' * (e' * a' * a' + 2 * s' * (a' * (1 - a')) + d' * (1 - a') * (1 - a')) : ℝ) : EReal) (D (ix2 r q) * D (ix2 r q)) := by
  unfold slopeOf
  pointwise
  rw [hs, he, hd, ha, Consts.bits_two, ← EReal.coe_one]
  simp only [← EReal.coe_add, ← EReal.coe_mul, ← EReal.coe_sub]
  simp only [mul_assoc]

/-- The second half of the first result: the spline where the coordinate's magnitude is at most five, else the coordinate. -/
def pick (x v : FVec Ideal S4096x512 .f32) : FVec Ideal S4096x512 .f32 :=
  select (cmpf .ole (Host.absf x) (broadcastInDim S4096x512 ![] bcast_S_S4096x512 (constant S_ .f32 0x40A00000#32))) v x

theorem pick_at (x v : FVec Ideal S4096x512 .f32) :
    pick x v (ix2 r q) = if clip (x (ix2 r q)) = x (ix2 r q) then v (ix2 r q) else x (ix2 r q) := by
  simp only [clip_eq_iff]
  rw [← Consts.bits_five]
  unfold pick
  pointwise
  rfl

/-- The second result: the given density less the logarithms of a row's derivatives, one where a point is outside. -/
def logSum (l : FVec Ideal S4096x1 .f32) (x g : FVec Ideal S4096x512 .f32) : FVec Ideal S4096x1 .f32 :=
  subf l (broadcastInDim S4096x1 ![0] bcast_S4096_S4096x1_0 (Host.reduceAdd (Host.log (select (cmpf .ole (Host.absf x) (broadcastInDim S4096x512 ![] bcast_S_S4096x512 (constant S_ .f32 0x40A00000#32))) g (broadcastInDim S4096x512 ![] bcast_S_S4096x512 (id (constant S_ .f32 0x3F800000#32))))) (constant S_ .f32 0x00000000#32) reducesTo_S4096x512_S4096_d1 h_S_))

theorem logSum_at (l : FVec Ideal S4096x1 .f32) (x g : FVec Ideal S4096x512 .f32) :
    logSum l x g (ix2 r 0) = l (ix2 r 0)
      - ∑ q : Fin 512, Ideal.log (if clip (x (ix2 r q)) = x (ix2 r q) then g (ix2 r q) else ((1 : ℝ) : EReal)) := by
  simp only [clip_eq_iff]
  rw [← Consts.bits_five, ← Consts.bits_one]
  unfold logSum
  pointwise
  rw [show (1 : EReal) = Ideal.ofBits .f32 0x3F800000#32 from (Consts.bits_one.trans EReal.coe_one).symm]
  rfl

/-- The clipped coordinates. -/
def clipped (x : FVec Ideal S4096x512 .f32) : FVec Ideal S4096x512 .f32 :=
  minimumf (broadcastInDim S4096x512 ![] bcast_S_S4096x512 (id (constant S_ .f32 0x40A00000#32))) (maximumf (broadcastInDim S4096x512 ![] bcast_S_S4096x512 (id (constant S_ .f32 0xC0A00000#32))) x)

theorem clipped_at (x : FVec Ideal S4096x512 .f32) : clipped x (ix2 r q) = ((clipR (x (ix2 r q)) : ℝ) : EReal) := by
  rw [← clip_coe]
  unfold clip clipped
  rw [← Consts.bits_five, ← Consts.bits_neg_five]
  pointwise
  rfl

end Cert.ReferenceIdeal.Ops

end

end
-- ==== Proof.RSpline.lean ====
module

public import proofs.«01_k».proof.Proof.RNet
public import proofs.«01_k».proof.Proof.Ops

@[expose] public section

set_option maxRecDepth 16384

noncomputable section

/-! # The reference's two results at an index -/

namespace Cert.ReferenceIdeal.Spline

open Cert.ReferenceIdeal Cert.ReferenceIdeal.Gen Cert.ReferenceIdeal.Value Cert.ReferenceIdeal.Read Cert.ReferenceIdeal.Ops Cert.Spline
open Idealize.ShloMosaic

/-- The parameters at a point, as reals. -/
def Params (V : Valuation τ sig (Elt Ideal)) (r : Fin 4096) (q : Fin 512) (n : Cert.Spline.Net) : Prop :=
  ∀ j : Fin 23, res_main_v18 V (ix3 r q j) = ((n j : ℝ) : EReal)

variable {V : Valuation τ sig (Elt Ideal)} {r : Fin 4096} {q : Fin 512} {n : Cert.Spline.Net}

/-! ## The heights, the widths, the slopes and the knots -/

theorem v19_at (hn : Params V r q n) (j : Fin 8) : res_main_v19 V (ix3 r q j) = ((n ⟨j.val, by omega⟩ : ℝ) : EReal) := by
  unfold res_main_v19
  pointwise
  exact hn _

theorem v20_at (hn : Params V r q n) (j : Fin 8) : res_main_v20 V (ix3 r q j) = ((n ⟨8 + j.val, by omega⟩ : ℝ) : EReal) := by
  unfold res_main_v20
  pointwise
  exact hn _

theorem v21_at (hn : Params V r q n) (j : Fin 7) : res_main_v21 V (ix3 r q j) = ((n ⟨16 + j.val, by omega⟩ : ℝ) : EReal) := by
  unfold res_main_v21
  pointwise
  exact hn _

/-- The heights, which add up to ten. -/
theorem v36_at (hn : Params V r q n) (j : Fin 8) : res_main_v36 V (ix3 r q j) = ((ten (ht n) j : ℝ) : EReal) :=
  scaled_at (expLess (res_main_v19 V) (rowMax (res_main_v19 V))) (fun k => n ⟨k.val, by omega⟩)
    (shiftedExp_at (res_main_v19 V) _ (v19_at hn)) j

/-- The widths, which add up to ten. -/
theorem v51_at (hn : Params V r q n) (j : Fin 8) : res_main_v51 V (ix3 r q j) = ((ten (wd n) j : ℝ) : EReal) :=
  scaled_at (expLess (res_main_v20 V) (rowMax (res_main_v20 V))) (fun k => n ⟨8 + k.val, by omega⟩)
    (shiftedExp_at (res_main_v20 V) _ (v20_at hn)) j

/-- The slopes at the nine knots. -/
theorem v53_at (hn : Params V r q n) (j : Fin 9) : res_main_v53 V (ix3 r q j) = ((sl n j : ℝ) : EReal) :=
  slopes_at (softs (res_main_v21 V)) n (softs_at (res_main_v21 V) _ (v21_at hn)) j

/-- The knots. -/
theorem v58_at (hn : Params V r q n) (j : Fin 9) :
    res_main_v58 V (ix3 r q j) = ((knot (-8796093 / 8796093022208) (ten (wd n)) j : ℝ) : EReal) :=
  knots_at 0xB58637BD#32 _ Consts.bits_eps (res_main_v51 V) _ (v51_at hn) j

/-- The knots' values, before the first has anything added. -/
def values (V : Valuation τ sig (Elt Ideal)) : FVec Ideal S4096x512x9 .f32 := knots 0x00000000#32 (res_main_v36 V)

theorem values_at (hn : Params V r q n) (j : Fin 9) : values V (ix3 r q j) = ((knot 0 (ten (ht n)) j : ℝ) : EReal) :=
  knots_at 0x00000000#32 0 Consts.bits_zero (res_main_v36 V) _ (v36_at hn) j

/-! ## The coordinate and its bin -/

/-- The second half of the input. -/
def coord (V : Valuation τ sig (Elt Ideal)) (r : Fin 4096) (q : Fin 512) : EReal :=
  (V (Proc.devRef .tc main_arg0) : Vec Ideal S4096x1024 .f32) (ix2 r ⟨512 + q.val, by omega⟩)

theorem v1_at (r : Fin 4096) (q : Fin 512) : res_main_v1 V (ix2 r q) = coord V r q := by
  unfold res_main_v1 coord
  pointwise

theorem v67_at (r : Fin 4096) (q : Fin 512) : res_main_v67 V (ix2 r q) = ((clipR (coord V r q) : ℝ) : EReal) := by
  rw [← v1_at]
  exact clipped_at (res_main_v1 V)

theorem v75_at (hn : Params V r q n) : res_main_v75 V (ix2 r q) = BitVec.ofNat 32 (bn n (clipR (coord V r q))).val := by
  rw [← bin_eq n _ (-8796093 / 8796093022208)]
  refine bins_at (res_main_v58 V) (res_main_v67 V) _ _ (v58_at hn) (v67_at r q) ?_ ?_ (knot_mono (by norm_num) (ten_pos (wd_pos n)))
  · have := le_clipR (coord V r q)
    rw [knot_zero]
    linarith
  · rw [knot_eight _ (wd_pos n)]
    exact clipR_le _

/-! ## The parts read at the bin -/

theorem v78_at (hn : Params V r q n) : res_main_v78 V (ix2 r q) = ((ten (wd n) (bn n (clipR (coord V r q))) : ℝ) : EReal) :=
  (take8_at (res_main_v51 V) (res_main_v75 V) r q _ (v75_at hn)).trans (v51_at hn _)

theorem v81_at (hn : Params V r q n) : res_main_v81 V (ix2 r q) = ((ten (ht n) (bn n (clipR (coord V r q))) : ℝ) : EReal) :=
  (take8_at (res_main_v36 V) (res_main_v75 V) r q _ (v75_at hn)).trans (v36_at hn _)

theorem v84_at (hn : Params V r q n) : res_main_v84 V (ix2 r q) = ((dl n (clipR (coord V r q)) : ℝ) : EReal) :=
  (take9_at (res_main_v53 V) (res_main_v75 V) r q (bn n (clipR (coord V r q))).castSucc (v75_at hn)).trans (v53_at hn _)

/-- The bin's number, one more. -/
def nextBin (V : Valuation τ sig (Elt Ideal)) : IVec S4096x512 32 :=
  addi (res_main_v75 V) (broadcastInDim S4096x512 ![] bcast_S_S4096x512 (constantI S_ 32 1#32))

theorem v89_at (hn : Params V r q n) : res_main_v89 V (ix2 r q) = ((dr n (clipR (coord V r q)) : ℝ) : EReal) := by
  refine (take9_at (res_main_v53 V) (nextBin V) r q (bn n (clipR (coord V r q))).succ ?_).trans (v53_at hn _)
  show IntOp.addi (res_main_v75 V (ix2 r q)) 1#32 = _
  rw [v75_at hn]
  generalize bn n (clipR (coord V r q)) = b
  revert b
  decide

theorem v96_at (hn : Params V r q n) : res_main_v96 V (ix2 r q) = ((ms n (clipR (coord V r q)) : ℝ) : EReal) := by
  refine (quotOf_at (res_main_v81 V) (res_main_v78 V)).trans ?_
  rw [v81_at hn, v78_at hn, Ideal.div_coe (ten_pos (wd_pos n) _).ne', ← EReal.coe_mul, ms_eq]

theorem v98_at (hn : Params V r q n) : res_main_v98 V (ix2 r q) = ((al n (clipR (coord V r q)) : ℝ) : EReal) := by
  refine (relOf_at (res_main_v67 V) (take9 (res_main_v58 V) (res_main_v75 V)) (res_main_v78 V)).trans ?_
  rw [take9_at (res_main_v58 V) (res_main_v75 V) r q (bn n (clipR (coord V r q))).castSucc (v75_at hn), v58_at hn, v67_at, v78_at hn,
    Ideal.div_coe (ten_pos (wd_pos n) _).ne', ← EReal.coe_sub, ← EReal.coe_mul, al_eq]

theorem v107_at (hn : Params V r q n) : res_main_v107 V (ix2 r q) = ((den n (clipR (coord V r q)) : ℝ) : EReal) :=
  denOf_at (res_main_v96 V) (res_main_v89 V) (res_main_v84 V) (res_main_v98 V) _ _ _ _ (v96_at hn) (v89_at hn) (v84_at hn) (v98_at hn)

/-- The value at the left end of the bin. -/
theorem base_at (hn : Params V r q n) :
    take9 (values V) (res_main_v75 V) (ix2 r q)
      = ((10 * (cum (ht n) (bn n (clipR (coord V r q))).castSucc / tot (ht n)) - 5 : ℝ) : EReal) := by
  rw [take9_at (values V) (res_main_v75 V) r q (bn n (clipR (coord V r q))).castSucc (v75_at hn), values_at hn, base_eq]

/-! ## The results -/

/-- The second half of the first result. -/
def second (V : Valuation τ sig (Elt Ideal)) : FVec Ideal S4096x512 .f32 :=
  pick (res_main_v1 V) (valueOf (take9 (values V) (res_main_v75 V)) (res_main_v81 V) (res_main_v96 V) (res_main_v98 V) (res_main_v84 V) (res_main_v107 V))

theorem second_at (hn : Params V r q n) : second V (ix2 r q) = outPoint n (coord V r q) := by
  refine (pick_at _ _).trans ?_
  rw [valueOf_at _ _ _ _ _ _ _ _ _ (v96_at hn) (v98_at hn) (v84_at hn), base_at hn, v81_at hn, v107_at hn, v1_at]
  unfold outPoint
  rw [← value_eq]
  rfl

/-- The density given. -/
def given (V : Valuation τ sig (Elt Ideal)) (r : Fin 4096) : EReal := (V (Proc.devRef .tc main_arg1) : Vec Ideal S4096x1 .f32) (ix2 r 0)

/-- The second result. -/
def density (V : Valuation τ sig (Elt Ideal)) : FVec Ideal S4096x1 .f32 :=
  logSum (V (Proc.devRef .tc main_arg1)) (res_main_v1 V)
    (slopeOf (res_main_v96 V) (res_main_v89 V) (res_main_v98 V) (res_main_v84 V) (res_main_v107 V))

theorem density_at {n : Fin 512 → Cert.Spline.Net} (hn : ∀ q, Params V r q (n q)) :
    density V (ix2 r 0) = given V r - ∑ q : Fin 512, logPoint (n q) (coord V r q) := by
  refine (logSum_at _ _ _).trans ?_
  refine congrArg _ (Finset.sum_congr rfl fun q _ => ?_)
  rw [slopeOf_at _ _ _ _ _ _ _ _ _ (v96_at (hn q)) (v89_at (hn q)) (v98_at (hn q)) (v84_at (hn q)), v107_at (hn q), v1_at]
  unfold logPoint
  by_cases h : clip (coord V r q) = coord V r q
  · rw [if_pos h, if_pos h]
    exact slope_eq _ _
  · rw [if_neg h, if_neg h]

/-- The first result: the first half as it is, beside the second. -/
def joined (V : Valuation τ sig (Elt Ideal)) : FVec Ideal S4096x1024 .f32 :=
  concatenate S4096x1024 1 [⟨S4096x512, (res_main_v0 V : FVec Ideal S4096x512 .f32)⟩, ⟨S4096x512, second V⟩] concatenates_S4096x512_S4096x512_S4096x1024_d1

theorem joined_lo (r : Fin 4096) (j : Fin 1024) (h : j.val < 512) :
    joined V (ix2 r j) = (V (Proc.devRef .tc main_arg0) : Vec Ideal S4096x1024 .f32) (ix2 r j) := by
  unfold joined
  pointwise
  rw [dif_pos h]
  unfold res_main_v0
  pointwise

theorem joined_hi (hn : Params V r q n) : joined V (ix2 r ⟨512 + q.val, by omega⟩) = outPoint n (coord V r q) := by
  rw [← second_at hn]
  unfold joined
  pointwise

end Cert.ReferenceIdeal.Spline

end

end
-- ==== Proof.Equal.lean ====
module

public import proofs.«01_k».proof.Proof.Frames
public import proofs.«01_k».proof.Proof.Pre
public import proofs.«01_k».proof.Proof.KNet
public import proofs.«01_k».proof.Proof.RSpline

@[expose] public section

set_option maxRecDepth 16384

noncomputable section

/-! # The kernel's results are the reference's -/

namespace Cert.Proof.Equal

open Idealize.ShloMosaic Idealize.SL.Sem Cert.Spline
open Cert.ReferenceIdeal (τ sig S4096x1024 S4096x1 S4096 S512x128 S128 S128x11776 S11776)
open Cert.ReferenceIdeal.Net (Regular firstWeights v18_at)

/-- The reference's argument arrays are the arrays `X`, `L`, `W1`, `W2`, `B1`, `B2`. -/
structure Given (V : Valuation τ sig (Elt Ideal)) (X : FVec Ideal S4096x1024 .f32) (L : FVec Ideal S4096x1 .f32)
    (W1 : FVec Ideal S512x128 .f32) (B1 : FVec Ideal S128 .f32) (W2 : FVec Ideal S128x11776 .f32) (B2 : FVec Ideal S11776 .f32) : Prop where
  input : V (Proc.devRef .tc Cert.ReferenceIdeal.main_arg0) = X
  total : V (Proc.devRef .tc Cert.ReferenceIdeal.main_arg1) = L
  first : V (Proc.devRef .tc Cert.ReferenceIdeal.main_arg3) = W1
  shift : V (Proc.devRef .tc Cert.ReferenceIdeal.main_arg4) = B1
  second : V (Proc.devRef .tc Cert.ReferenceIdeal.main_arg5) = W2
  offset : V (Proc.devRef .tc Cert.ReferenceIdeal.main_arg6) = B2

/-- The two programs' arrays, as the precondition has them: the first half of the input real and not constant, the second
    layer's weights real, the biases zero. -/
structure Fine (X : FVec Ideal S4096x1024 .f32) (B1 : FVec Ideal S128 .f32) (W2 : FVec Ideal S128x11776 .f32) (B2 : FVec Ideal S11776 .f32)
    (xa : Fin 4096 → Fin 512 → ℝ) (w2 : Fin 128 → Fin 11776 → ℝ) : Prop where
  first : Cert.KernelIdeal.Spline.FirstHalf X xa
  weights : Cert.KernelIdeal.Spline.Weights W2 w2
  spread : 0 < var xa
  bias1 : ∀ k : Fin 128, B1 (ix1 k) = (0 : EReal)
  bias2 : ∀ j : Fin 11776, B2 (ix1 j) = (0 : EReal)

/-- The precondition gives such reals. -/
theorem fine [Cert.Pre_regular.Facts] {X : FVec Ideal S4096x1024 .f32} {L : FVec Ideal S4096x1 .f32} {A : IVec S4096 1} {W1 : FVec Ideal S512x128 .f32}
    {B1 : FVec Ideal S128 .f32} {W2 : FVec Ideal S128x11776 .f32} {B2 : FVec Ideal S11776 .f32}
    (h : Cert.Pre_regular.fn (F := Ideal) X L A W1 B1 W2 B2 = fun _ => 1#1) : ∃ xa w2, Fine X B1 W2 B2 xa w2 := by
  obtain ⟨hx, ⟨r, q, hne⟩, hw, h1, h2⟩ := Cert.Pre_regular.parts X L A W1 B1 W2 B2 h
  refine ⟨fun r q => (Cert.Pre_regular.half X (ix2 r q)).toReal, fun k j => (W2 (ix2 k j)).toReal,
    fun r q => (Cert.Pre_regular.half_at X r q).symm.trans (hx r q), hw, var_pos ⟨r, q, fun e => hne ?_⟩, h1, h2⟩
  rw [hx r q, hx 0 0]
  exact congrArg _ e

variable {V : Valuation τ sig (Elt Ideal)} {X : FVec Ideal S4096x1024 .f32} {L : FVec Ideal S4096x1 .f32} {W1 : FVec Ideal S512x128 .f32}
  {B1 : FVec Ideal S128 .f32} {W2 : FVec Ideal S128x11776 .f32} {B2 : FVec Ideal S11776 .f32} {xa : Fin 4096 → Fin 512 → ℝ} {w2 : Fin 128 → Fin 11776 → ℝ}

/-- The reference's arrays are then regular. -/
theorem regular (hG : Given V X L W1 B1 W2 B2) (hF : Fine X B1 W2 B2 xa w2) : Regular V xa w2 where
  first r q := (congrFun hG.input _).trans (hF.first r q)
  weights k j := (congrFun hG.second _).trans (hF.weights k j)
  spread := hF.spread
  bias1 k := (congrFun hG.shift _).trans (hF.bias1 k)
  bias2 j := (congrFun hG.offset _).trans (hF.bias2 j)

/-- Both read the same first weights. -/
theorem weights (hG : Given V X L W1 B1 W2 B2) : firstWeights V = fun q k => W1 (ix2 q k) :=
  funext fun q => funext fun k => congrFun hG.first (ix2 q k)

/-- The first result: the reference's is the kernel's. -/
theorem outputs (hG : Given V X L W1 B1 W2 B2) (hF : Fine X B1 W2 B2 xa w2) :
    Cert.ReferenceIdeal.Spline.joined V = Cert.KernelIdeal.Spline.resX (F := Ideal) X W1 W2 := by
  funext i
  obtain ⟨r, j, rfl⟩ : ∃ (r : Fin 4096) (j : Fin 1024), i = ix2 r j := ⟨i 0, i 1, eq_ix2 i⟩
  by_cases hj : j.val < 512
  · exact (Cert.ReferenceIdeal.Spline.joined_lo r j hj).trans ((congrFun hG.input _).trans (Cert.KernelIdeal.Spline.resX_lo r j hj).symm)
  · obtain ⟨q, hq⟩ : ∃ q : Fin 512, j.val = 512 + q.val := ⟨⟨j.val - 512, by omega⟩, by simp; omega⟩
    rw [show j = (⟨512 + q.val, Nat.add_lt_add_left q.isLt 512⟩ : Fin 1024) from Fin.ext hq]
    refine (Cert.ReferenceIdeal.Spline.joined_hi (fun p => v18_at (regular hG hF) r q p)).trans ?_
    rw [weights hG, show Cert.ReferenceIdeal.Spline.coord V r q = X (ix2 r ⟨512 + q.val, by omega⟩) from congrFun hG.input _]
    exact (Cert.KernelIdeal.Spline.resX_hi hF.first hF.weights hF.spread r q).symm

/-- The second result: the reference's is the kernel's. -/
theorem densities (hG : Given V X L W1 B1 W2 B2) (hF : Fine X B1 W2 B2 xa w2) :
    Cert.ReferenceIdeal.Spline.density V = Cert.KernelIdeal.Spline.resLd (F := Ideal) X L W1 W2 := by
  funext i
  obtain ⟨r, j, rfl⟩ : ∃ (r : Fin 4096) (j : Fin 1), i = ix2 r j := ⟨i 0, i 1, eq_ix2 i⟩
  obtain rfl : j = 0 := Subsingleton.elim _ _
  refine (Cert.ReferenceIdeal.Spline.density_at (fun q p => v18_at (regular hG hF) r q p)).trans ?_
  rw [weights hG, show Cert.ReferenceIdeal.Spline.given V r = L (ix2 r 0) from congrFun hG.total _]
  refine Eq.trans ?_ (Cert.KernelIdeal.Spline.resLd_at hF.first hF.weights hF.spread r).symm
  refine congrArg _ (Finset.sum_congr rfl fun q _ => ?_)
  rw [show Cert.ReferenceIdeal.Spline.coord V r q = X (ix2 r ⟨512 + q.val, by omega⟩) from congrFun hG.input _]

end Cert.Proof.Equal

end

end
-- ==== Proof.lean ====
module

public import proofs.«01_k».proof.Proof.Frames
public import proofs.«01_k».proof.Proof.Equal

@[expose] public section

set_option maxRecDepth 16384

noncomputable section

/-! # The certificate's claim, assembled -/

namespace Cert.Proof

open Idealize.ShloMosaic Idealize.SL.Sem

/-- The reference's two results are the kernel's, on every input the precondition admits. -/
theorem algebraic : Cert.algebraic_KernelIdeal_ReferenceIdeal_pre_regular (hPre_regular := Cert.Pre_regular.fits) := by
  intro m g m' g' hpre hagree
  haveI := Cert.Pre_regular.fits
  have given : ∀ c, Equal.Given (StableHlo.launchContents m' c) _ _ _ _ _ _ := fun c =>
    ⟨(hagree c).1, (hagree c).2.1, (hagree c).2.2.2.1, (hagree c).2.2.2.2.1, (hagree c).2.2.2.2.2.1, (hagree c).2.2.2.2.2.2⟩
  refine ⟨_, _, Cert.KernelIdeal.Spline.run_ends m g, ?_⟩
  refine (θ_run Cert.ReferenceIdeal.defs _ _).mono (fun _ h c => ?_) (Cert.ReferenceIdeal.Value.run (F := Ideal) m' g')
  obtain ⟨xa, w2, hF⟩ := Equal.fine (hpre c)
  exact ⟨(h c).1.trans (Equal.outputs (given c) hF), (h c).2.1.trans (Equal.densities (given c) hF), (h c).2.2⟩

/-- Everything the certificate claims. -/
theorem claim : Cert.Claim :=
  ⟨Cert.Kernel.Gen.facts, Cert.KernelIdeal.Gen.facts, Cert.ReferenceIdeal.Gen.facts, Cert.Pre_regular.fits,
   Plain.kernel, Plain.ideal, fun m g _ => Plain.ideal m g trivial, Plain.reference, fun m g _ => Plain.reference m g trivial,
   Plain.constants, algebraic⟩

end Cert.Proof

end

end
